-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![4096, 4096]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 8192]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 4096]⟩ ⟨2, ![4096, 8192]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S2x128x2048 : Shape := ⟨3, ![2, 128, 2048]⟩
abbrev S2x128x4096 : Shape := ⟨3, ![2, 128, 4096]⟩
abbrev S4x128x4096 : Shape := ⟨3, ![4, 128, 4096]⟩
abbrev S64x2048 : Shape := ⟨2, ![64, 2048]⟩
abbrev S64x4096 : Shape := ⟨2, ![64, 4096]⟩
abbrev S_ : Shape := ⟨0, ![]⟩
abbrev S2 : Shape := ⟨1, ![2]⟩
abbrev S4 : Shape := ⟨1, ![4]⟩
abbrev S1 : Shape := ⟨1, ![1]⟩
abbrev S1x128x2048 : Shape := ⟨3, ![1, 128, 2048]⟩
abbrev S128x2048 : Shape := ⟨2, ![128, 2048]⟩
abbrev S128x4096 : Shape := ⟨2, ![128, 4096]⟩
abbrev S1x128x4096 : Shape := ⟨3, ![1, 128, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .local _ .vmem, ⟨0, _⟩ => ⟨S2048x4096, .f32⟩
  | .local _ .vmem, ⟨1, _⟩ => ⟨S2x128x2048, .f32⟩
  | .local _ .vmem, ⟨2, _⟩ => ⟨S2x128x4096, .f32⟩
  | .local _ .vmem, ⟨3, _⟩ => ⟨S4x128x4096, .f32⟩
  | .local _ .vmem, ⟨4, _⟩ => ⟨S64x2048, .f32⟩
  | .local _ .vmem, ⟨5, _⟩ => ⟨S64x4096, .f32⟩
  | .local _ .vmem, ⟨6, _⟩ => ⟨S64x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_off1 (c1_i32_11 : BitVec 32) : Fin 1 → Nat :=
  let c2_i32_12 : BitVec 32 := 2#32
  let v14 : BitVec 32 := Scalar.remsi c1_i32_11 c2_i32_12
  ![v14.toNat]
def k0_off1_at (r : Fin 3) : BitVec 32 :=
  if r.val < 1 then
    1#32
  else
    if r.val < 2 then
      31#32
    else
      30#32
def k0_off2 : Fin 3 → Nat :=
  let c1_i32_9 : BitVec 32 := 1#32
  let c2_i32_10 : BitVec 32 := 2#32
  let v13 : BitVec 32 := Scalar.remsi c1_i32_9 c2_i32_10
  let c0_i32_13 : BitVec 32 := 0#32
  let c0_i32_14 : BitVec 32 := 0#32
  ![v13.toNat, 0, 0]
def k0_dev2 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v27 : BitVec 32 := Scalar.muli v6 c2_i32_23
  let v28 : BitVec 32 := Scalar.addi c0_i32_24 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v29 : BitVec 32 := Scalar.muli v5 c1_i32_25
  let v30 : BitVec 32 := Scalar.addi v28 v29
  v30.toNat
@[reducible] def k0_t1_loop : Scf.Loop 32 :=
  let c1_i32_26 : BitVec 32 := 1#32
  let c31_i32 : BitVec 32 := 31#32
  let v31 : BitVec 32 := Scalar.addi c1_i32_26 c31_i32
  let c1_i32_27 : BitVec 32 := 1#32
  ⟨c1_i32_26, v31, c1_i32_27⟩
def k0_off3 (k0_t1 : Fin k0_t1_loop.trips) : Fin 1 → Nat :=
  let c1_i32_26 : BitVec 32 := 1#32
  let c1_i32_27 : BitVec 32 := 1#32
  let arg19 : BitVec 32 := Scf.iv c1_i32_26 c1_i32_27 k0_t1
  let c2_i32_116 : BitVec 32 := 2#32
  let v117 : BitVec 32 := Scalar.remsi arg19 c2_i32_116
  ![v117.toNat]
def k0_off4 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c2_i32_115 : BitVec 32 := 2#32
  let v116 : BitVec 32 := Scalar.remsi arg19 c2_i32_115
  let c0_i32_117 : BitVec 32 := 0#32
  let c0_i32_118 : BitVec 32 := 0#32
  ![v116.toNat, 0, 0]
def k0_off5 (k0_t1 : Fin k0_t1_loop.trips) : Fin 2 → Nat :=
  let c1_i32_26 : BitVec 32 := 1#32
  let c1_i32_27 : BitVec 32 := 1#32
  let arg19 : BitVec 32 := Scf.iv c1_i32_26 c1_i32_27 k0_t1
  let c128_i32 : BitVec 32 := 128#32
  let v114 : BitVec 32 := Scalar.muli arg19 c128_i32
  let c64_i32_114 : BitVec 32 := 64#32
  let v115 : BitVec 32 := Scalar.subi v114 c64_i32_114
  let c0_i32_119 : BitVec 32 := 0#32
  ![v115.toNat, 0]
def k0_cond1 (k0_t1 : Fin k0_t1_loop.trips) : BitVec 1 :=
  let c1_i32_26 : BitVec 32 := 1#32
  let c1_i32_27 : BitVec 32 := 1#32
  let arg19 : BitVec 32 := Scf.iv c1_i32_26 c1_i32_27 k0_t1
  let c3_i32 : BitVec 32 := 3#32
  let v123 : BitVec 1 := Scalar.cmpi .sge arg19 c3_i32
  let v124 : BitVec 32 := Scalar.extui v123
  let c0_i32_120 : BitVec 32 := 0#32
  let v125 : BitVec 1 := Scalar.cmpi .ne v124 c0_i32_120
  v125

def k0_off6 (k0_t1 : Fin k0_t1_loop.trips) : Fin 1 → Nat :=
  let c1_i32_26 : BitVec 32 := 1#32
  let c1_i32_27 : BitVec 32 := 1#32
  let arg19 : BitVec 32 := Scf.iv c1_i32_26 c1_i32_27 k0_t1
  let c2_i32_150 : BitVec 32 := 2#32
  let v166 : BitVec 32 := Scalar.subi arg19 c2_i32_150
  let c2_i32_154 : BitVec 32 := 2#32
  let v170 : BitVec 32 := Scalar.remsi v166 c2_i32_154
  ![v170.toNat]
def k0_off7 (k0_t1 : Fin k0_t1_loop.trips) : Fin 2 → Nat :=
  let c1_i32_26 : BitVec 32 := 1#32
  let c1_i32_27 : BitVec 32 := 1#32
  let arg19 : BitVec 32 := Scf.iv c1_i32_26 c1_i32_27 k0_t1
  let c2_i32_150 : BitVec 32 := 2#32
  let v166 : BitVec 32 := Scalar.subi arg19 c2_i32_150
  let c128_i32_152 : BitVec 32 := 128#32
  let v168 : BitVec 32 := Scalar.muli v166 c128_i32_152
  let c64_i32_153 : BitVec 32 := 64#32
  let v169 : BitVec 32 := Scalar.subi v168 c64_i32_153
  let c0_i32_155 : BitVec 32 := 0#32
  ![v169.toNat, 0]
def k0_off8 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c2_i32_150 : BitVec 32 := 2#32
  let v166 : BitVec 32 := Scalar.subi arg19 c2_i32_150
  let c2_i32_151 : BitVec 32 := 2#32
  let v167 : BitVec 32 := Scalar.remsi v166 c2_i32_151
  let c0_i32_156 : BitVec 32 := 0#32
  let c0_i32_157 : BitVec 32 := 0#32
  ![v167.toNat, 0, 0]
def k0_off9 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c2_i32_121 : BitVec 32 := 2#32
  let v126 : BitVec 32 := Scalar.remsi arg19 c2_i32_121
  let v127 : Index := Scalar.indexCast v126
  let c0_122 : Index := 0#32
  let c0_123 : Index := 0#32
  ![v127.toNat, 0, 0]
def k0_off10 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c2_i32_127 : BitVec 32 := 2#32
  let v132 : BitVec 32 := Scalar.remsi arg19 c2_i32_127
  let v133 : Index := Scalar.indexCast v132
  let c0_128 : Index := 0#32
  let c0_129 : Index := 0#32
  ![v133.toNat, 0, 0]
def k0_off11 (k0_t1 : Fin k0_t1_loop.trips) : Fin 1 → Nat :=
  let c1_i32_26 : BitVec 32 := 1#32
  let c1_i32_27 : BitVec 32 := 1#32
  let arg19 : BitVec 32 := Scf.iv c1_i32_26 c1_i32_27 k0_t1
  let c4_i32_133 : BitVec 32 := 4#32
  let v140 : BitVec 32 := Scalar.remsi arg19 c4_i32_133
  ![v140.toNat]
def k0_off12 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c4_i32_131 : BitVec 32 := 4#32
  let v138 : BitVec 32 := Scalar.remsi arg19 c4_i32_131
  let c0_i32_137 : BitVec 32 := 0#32
  let c0_i32_138 : BitVec 32 := 0#32
  ![v138.toNat, 0, 0]
def k0_off13 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c2_i32_130 : BitVec 32 := 2#32
  let v137 : BitVec 32 := Scalar.remsi arg19 c2_i32_130
  let c0_i32_139 : BitVec 32 := 0#32
  let c0_i32_140 : BitVec 32 := 0#32
  ![v137.toNat, 0, 0]
def k0_dev3 (d0 : Dev nD) : Nat :=
  let c0_i32_135 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_134 : BitVec 32 := 2#32
  let v141 : BitVec 32 := Scalar.muli v6 c2_i32_134
  let v142 : BitVec 32 := Scalar.addi c0_i32_135 v141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v143 : BitVec 32 := Scalar.muli v5 c1_i32_136
  let v144 : BitVec 32 := Scalar.addi v142 v143
  v144.toNat
def k0_cond2 (k0_t1 : Fin k0_t1_loop.trips) : BitVec 1 :=
  let c1_i32_26 : BitVec 32 := 1#32
  let c1_i32_27 : BitVec 32 := 1#32
  let arg19 : BitVec 32 := Scf.iv c1_i32_26 c1_i32_27 k0_t1
  let c1_i32_141 : BitVec 32 := 1#32
  let v153 : BitVec 32 := Scalar.addi arg19 c1_i32_141
  let c31_i32_142 : BitVec 32 := 31#32
  let v154 : BitVec 1 := Scalar.cmpi .sle v153 c31_i32_142
  let v155 : BitVec 32 := Scalar.extui v154
  let c0_i32_143 : BitVec 32 := 0#32
  let v156 : BitVec 1 := Scalar.cmpi .ne v155 c0_i32_143
  v156

def k0_off14 (k0_t1 : Fin k0_t1_loop.trips) : Fin 1 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.addi arg19 c1_i32_150
  let c2_i32_154 : BitVec 32 := 2#32
  let v170 : BitVec 32 := Scalar.remsi v166 c2_i32_154
  ![v170.toNat]
def k0_off15 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.addi arg19 c1_i32_150
  let c2_i32_153 : BitVec 32 := 2#32
  let v169 : BitVec 32 := Scalar.remsi v166 c2_i32_153
  let c0_i32_155 : BitVec 32 := 0#32
  let c0_i32_156 : BitVec 32 := 0#32
  ![v169.toNat, 0, 0]
def k0_off16 (k0_t1 : Fin k0_t1_loop.trips) : Fin 2 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.addi arg19 c1_i32_150
  let c128_i32_151 : BitVec 32 := 128#32
  let v167 : BitVec 32 := Scalar.muli v166 c128_i32_151
  let c64_i32_152 : BitVec 32 := 64#32
  let v168 : BitVec 32 := Scalar.subi v167 c64_i32_152
  let c0_i32_157 : BitVec 32 := 0#32
  ![v168.toNat, 0]
def k0_cond5 (k0_t1 : Fin k0_t1_loop.trips) : BitVec 1 :=
  let c1_i32_26 : BitVec 32 := 1#32
  let c1_i32_27 : BitVec 32 := 1#32
  let arg19 : BitVec 32 := Scf.iv c1_i32_26 c1_i32_27 k0_t1
  let c2_i32_148 : BitVec 32 := 2#32
  let v163 : BitVec 1 := Scalar.cmpi .sge arg19 c2_i32_148
  let v164 : BitVec 32 := Scalar.extui v163
  let c0_i32_149 : BitVec 32 := 0#32
  let v165 : BitVec 1 := Scalar.cmpi .ne v164 c0_i32_149
  v165

def k0_off17 (k0_t1 : Fin k0_t1_loop.trips) : Fin 1 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.subi arg19 c1_i32_150
  let c4_i32_154 : BitVec 32 := 4#32
  let v170 : BitVec 32 := Scalar.remsi v166 c4_i32_154
  ![v170.toNat]
def k0_off18 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.subi arg19 c1_i32_150
  let c4_i32_152 : BitVec 32 := 4#32
  let v168 : BitVec 32 := Scalar.remsi v166 c4_i32_152
  let c0_i32_158 : BitVec 32 := 0#32
  let c0_i32_159 : BitVec 32 := 0#32
  ![v168.toNat, 0, 0]
def k0_off19 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.subi arg19 c1_i32_150
  let c2_i32_151 : BitVec 32 := 2#32
  let v167 : BitVec 32 := Scalar.remsi v166 c2_i32_151
  let c0_i32_160 : BitVec 32 := 0#32
  let c0_i32_161 : BitVec 32 := 0#32
  ![v167.toNat, 0, 0]
def k0_off20 (k0_t1 : Fin k0_t1_loop.trips) : Fin 1 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.subi arg19 c1_i32_150
  let c2_i32_164 : BitVec 32 := 2#32
  let v183 : BitVec 32 := Scalar.remsi v166 c2_i32_164
  ![v183.toNat]
def k0_off21 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.subi arg19 c1_i32_150
  let c2_i32_171 : BitVec 32 := 2#32
  let v191 : BitVec 32 := Scalar.remsi v166 c2_i32_171
  let v192 : Index := Scalar.indexCast v191
  let c0_172 : Index := 0#32
  let c0_173 : Index := 0#32
  ![v192.toNat, 0, 0]
def k0_off22 (k0_t1 : Fin k0_t1_loop.trips) : Fin 3 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.subi arg19 c1_i32_150
  let c4_i32_174 : BitVec 32 := 4#32
  let v195 : BitVec 32 := Scalar.remsi v166 c4_i32_174
  let v196 : Index := Scalar.indexCast v195
  let c0_175 : Index := 0#32
  let c0_176 : Index := 0#32
  ![v196.toNat, 0, 0]
def k0_off23 (k0_t1 : Fin k0_t1_loop.trips) : Fin 2 → Nat :=
  let c1_i32_26 : BitVec 32 := 1#32
  let c1_i32_27 : BitVec 32 := 1#32
  let arg19 : BitVec 32 := Scf.iv c1_i32_26 c1_i32_27 k0_t1
  let c1_i32_150 : BitVec 32 := 1#32
  let v166 : BitVec 32 := Scalar.subi arg19 c1_i32_150
  let c128_i32_180 : BitVec 32 := 128#32
  let v205 : BitVec 32 := Scalar.muli v166 c128_i32_180
  let c64_i32_181 : BitVec 32 := 64#32
  let v206 : BitVec 32 := Scalar.subi v205 c64_i32_181
  let c0_i32_183 : BitVec 32 := 0#32
  ![v206.toNat, 0]
def k0_dev4 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v40 : BitVec 32 := Scalar.muli v6 c2_i32_39
  let v41 : BitVec 32 := Scalar.addi c0_i32_40 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v42 : BitVec 32 := Scalar.muli v5 c1_i32_41
  let v43 : BitVec 32 := Scalar.addi v41 v42
  v43.toNat
def k0_off24 : Fin 1 → Nat :=
  let c31_i32_47 : BitVec 32 := 31#32
  let c4_i32_48 : BitVec 32 := 4#32
  let v47 : BitVec 32 := Scalar.remsi c31_i32_47 c4_i32_48
  ![v47.toNat]
def k0_off25 : Fin 3 → Nat :=
  let c31_i32_44 : BitVec 32 := 31#32
  let c4_i32 : BitVec 32 := 4#32
  let v45 : BitVec 32 := Scalar.remsi c31_i32_44 c4_i32
  let c0_i32_52 : BitVec 32 := 0#32
  let c0_i32_53 : BitVec 32 := 0#32
  ![v45.toNat, 0, 0]
def k0_off26 (c31_i32_42 : BitVec 32) : Fin 3 → Nat :=
  let c2_i32_43 : BitVec 32 := 2#32
  let v44 : BitVec 32 := Scalar.remsi c31_i32_42 c2_i32_43
  let c0_i32_54 : BitVec 32 := 0#32
  let c0_i32_55 : BitVec 32 := 0#32
  ![v44.toNat, 0, 0]
def k0_off27 : Fin 3 → Nat :=
  let c31_i32_69 : BitVec 32 := 31#32
  let c2_i32_70 : BitVec 32 := 2#32
  let v68 : BitVec 32 := Scalar.remsi c31_i32_69 c2_i32_70
  let v69 : Index := Scalar.indexCast v68
  let c0_71 : Index := 0#32
  let c0_72 : Index := 0#32
  ![v69.toNat, 0, 0]
def k0_off28 : Fin 3 → Nat :=
  let c31_i32_73 : BitVec 32 := 31#32
  let c4_i32_74 : BitVec 32 := 4#32
  let v72 : BitVec 32 := Scalar.remsi c31_i32_73 c4_i32_74
  let v73 : Index := Scalar.indexCast v72
  let c0_75 : Index := 0#32
  let c0_76 : Index := 0#32
  ![v73.toNat, 0, 0]
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Rules.lean ====
/-
  Rules of the logic in the form this proof uses them: loads, stores, local copies, waits
  and copies to another device over memrefs owned at known contents.
-/
module

public import Idealize.ShloMosaic.Lib.Pipeline.Launch
public import Idealize.ShloMosaic.Lib.Pipeline.Kit
public import Idealize.ShloMosaic.Lib.Tactic

@[expose] public section

set_option maxRecDepth 16384

noncomputable section

namespace Cert.Proof.Rules

open Idealize.ShloMosaic Idealize.ShloMosaic.TcCoe Idealize.ShloMosaic.Tactic
open Idealize.SL Idealize.SL.RA
open Idealize.SL.BI (sProp Storable)
open scoped Idealize.SL.BI
open Idealize.SL.BI.BIBase Idealize.SL.BI.Laws Idealize.SL.ProofMode Idealize.SL.Sem
open Idealize.ShloMosaic.Rounds
open Idealize.ShloMosaic.Transfers (Flight)

variable {nD : Nat} {τ : Topo} {sig : RefSig} {Ix : Type} [DecidableEq Ix] {Val : EltTy → Type}
variable {Name : Type} [DecidableEq Name] {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V)
variable {α : Type} {Q : α → sProp (MT nD τ sig Ix Val Name U Lvl)} {sp sp' : Space} {s : Shape} {e : EltTy}

/-! ## Ownership -/

/-- A memref owned with some of its axes of size one dropped is the memref owned, its contents re-indexed. -/
theorem owns_squeeze (m : Memref sig c.2.kind sp s e) (s' : Shape) (h : s.Squeezes s') (q : PosShare TreeShare) (X : s.Idx → Val e) :
    (owns c (m.squeeze s' h) q (fun j => X (Shape.reshapeEquiv h.numel_eq j)) : sProp 𝕄) = owns c m q X := by
  have hset : (m.squeeze s' h).view.set = m.view.set := View.set_reshape _ _
  have hr (f : m.view.ty.Contents Val) :
      (m.squeeze s' h).view.read Val f = (fun j => X (Shape.reshapeEquiv h.numel_eq j)) ↔ m.view.read Val f = X := by
    constructor
    · intro hf
      funext i
      have := congrFun hf ((Shape.reshapeEquiv h.numel_eq).symm i)
      simp only [Equiv.apply_symm_apply] at this
      rw [← this]
      show _ = m.view.read Val f (Shape.reshapeEquiv h.numel_eq ((Shape.reshapeEquiv h.numel_eq).symm i))
      rw [Equiv.apply_symm_apply]
    · intro hf; subst hf; rfl
  have h₁ : (owns c (m.squeeze s' h) q (fun j => X (Shape.reshapeEquiv h.numel_eq j)) : sProp 𝕄) ⊢ owns c m q X := by
    unfold owns
    iintro ⟨%f, %hf, H⟩
    iexists f
    isplitr; · ipureintro; exact (hr f).mp hf
    rw [← hset]; iexact H
  have h₂ : (owns c m q X : sProp 𝕄) ⊢ owns c (m.squeeze s' h) q (fun j => X (Shape.reshapeEquiv h.numel_eq j)) := by
    unfold owns
    iintro ⟨%f, %hf, H⟩
    iexists f
    isplitr; · ipureintro; exact (hr f).mpr hf
    rw [hset]; iexact H
  exact BI.equiv_iff.mp ⟨h₁, h₂⟩

/-- A unit rectangle of the full size is placed where it stands. -/
theorem emb_full {s : Shape} {off : Fin s.rank → ℕ} (h : ∀ a, off a + s.size a ≤ s.size a) (j : s.Idx) :
    (Rect.unit off s.size h).emb j = j := by
  funext a
  apply Fin.ext
  have := h a
  rw [Rect.emb_apply]
  show off a + 1 * (j a).val = (j a).val
  omega

/-- What is owned of a slice of a buffer through a memref is owned of the buffer, on the elements of the slice. -/
theorem owns_slice_at (m : Memref sig c.2.kind sp s e) (q : PosShare TreeShare) (r : Rect s) (hr : ∀ a, r.stride a = 1)
    (g : m.view.ty.Contents Val) (X : r.shape.Idx → Val e) (hX : X = fun j => m.view.read Val g (r.emb j)) :
    (owns c (m.slice r hr) q X : sProp 𝕄) = m.view.loc c ↦[(m.view.slice r).set]{q} g := by
  subst hX; exact owns_slice_read c m q r hr g

/-! ## Flights -/

/-- A flight delivers, besides, what is put beside it. -/
theorem Flight_frame (EC : UEmb Counters 𝕄) {sm : SemLoc sig} {ι : Ix} {N : ℕ} {D R : sProp 𝕄} :
    iprop(Flight EC c sm ι N D ∗ R) ⊢ Flight EC c sm ι N iprop(D ∗ R) := by
  unfold Transfers.Flight
  iintro ⟨⟨⟨%S, HS, %hcap, %hpeek⟩, Hcred⟩, HR⟩
  isplitl [HS HR]
  · iexists iprop(S ∗ R)
    isplitl [HS HR]; · isplitl [HS] <;> iassumption
    isplit
    · ipureintro
      intro K
      refine Entails.trans ?_ (hcap K)
      iintro ⟨⟨HS, HR⟩, HK⟩
      isplitl [HS]; · iexact HS
      iintro ⟨Hv, HD⟩
      iapply HK
      isplitl [Hv]; · iexact Hv
      isplitl [HD] <;> iassumption
    · ipureintro
      intro K
      refine Entails.trans ?_ (hpeek K)
      iintro ⟨⟨HS, HR⟩, HK⟩
      isplitl [HS]; · iexact HS
      iintro HS
      iapply HK
      isplitl [HS] <;> iassumption
  · iexact Hcred

/-- The start of a local copy between two memrefs owned. -/
theorem wp_copy (EC : UEmb Counters 𝕄) [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0)
      ⊢ iprop((Flight EC c sm ι N iprop(owns c dst fullShare X ∗ owns c src q X) -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  unfold owns
  icases Hs with ⟨%f, %hf, Hs⟩
  icases Hd with ⟨%g, %hg, Hd⟩
  iapply (Transfers.wp_dmaLocal EC 𝒱 c bd ι N hN hN0 (Finset.Subset.refl dst.view.set)) $$ [Hs Hd Hv]
  · isplitl [Hs]; · iexact Hs
    isplitl [Hd] <;> iassumption
  iintro HF
  iapply Hk
  iapply (Transfers.Flight_mono c (EC := EC) (D := iprop((dst.view.loc c ↦[dst.view.set]{fullShare} (dst.view.write Val g (ReadAs.same.apply (src.view.read Val f)) Finset.univ)) ∗ (src.view.loc c ↦[src.view.set]{q} f))) _) $$ HF
  iintro ⟨Hd, Hs⟩
  isplitl [Hd]
  · iexists (dst.view.write Val g (ReadAs.same.apply (src.view.read Val f)) Finset.univ)
    isplitr; · ipureintro; exact (View.read_write_univ _ _).trans hf
    iexact Hd
  · iexists f
    isplitr; · ipureintro; exact hf
    iexact Hs

/-- The start of a copy to a peer's memref, paying a duty of a round of the peer's receive cell; the send cell's
    counter goes into a flight that brings the source back. `Fr` is what the sender hands over besides. -/
theorem wp_send {D : Type} [DecidableEq D] (EC : UEmb Counters 𝕄) [Infinite Name] [EC.LandsIn (upEmb : UEmb _ 𝕄)]
    (E : Emb (URounds (GSem nD τ sig) D) 𝕄) (Rd : Schedule (GSem nD τ sig) D 𝕄) [E.LandsIn (upEmb : UEmb _ 𝕄)] [∀ g r d, Storable (upEmb : UEmb _ 𝕄) (Rd.payload g r d)] {κ : Name} {c' : Thread nD τ}
    {src : Memref sig c.2.kind sp s e} {dst : Memref sig c'.2.kind sp' s e} {hsc : dst.view.ref.isScScratch = false}
    {sS sem : SemLoc sig} {hsrc : src.view.WordExact} {hdst : dst.view.WordExact} {hsem : DmaTarget.Typed sp sem (.remote c' dst sS hsc)}
    {k : PUnit → Prog (TpuEff nD τ sig Val Λ c.2) α} {X Y : s.Idx → Val e} {Fr : sProp 𝕄} {r : ℕ} {d : D}
    (ι ι' : Ix) {O₀ : CellTallies nD τ sig Ix} (O : CellTallies nD τ sig Ix) {W : Waits sig Ix} (N : Nat) (hN : dst.view.amount sem = N) (hN0 : 0 < N)
    (hO : O₀ = O + tallyAt (c', sem) ι N) (hd : d ∈ Rd.duties (c', sem) r) (ham : Rd.amount (c', sem) r d = N)
    (hpay : iprop(owns c' dst fullShare X ∗ Fr) ⊢ Rd.payload (c', sem) r d)
    (hr : τ.routes c c' = true := by routes) :
    iprop(owns c src fullShare X ∗ owns c' dst fullShare Y ∗ semVal (c, sS) 0 ∗ owes c O₀ W ∗ cellInv E Rd κ (c', sem) ∗ dutyTok E (c', sem) r d
        ∗ reached E (c', sem) r ∗ Fr)
      ⊢ iprop(((Flight EC c sS ι' N (owns c src fullShare X) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  iintro ⟨Hs, Hd, Hv, HO, Hg, Ht, Hr, HF⟩ Hk
  unfold owns at *
  icases Hs with ⟨%f, %hf, Hs⟩
  icases Hd with ⟨%g, %hg, Hd⟩
  imod (Transfers.flight_alloc EC hN0 iprop(src.view.loc c ↦[src.view.set]{fullShare} f) (g := (c, sS))) $$ Hv with ⟨%γ, %δ, %κ', #Hinv, Hγ, Hδ⟩
  iapply (wp_enqueueDma_remote 𝒱 c bd Set.univ (R := iprop((dst.view.loc c' ↦[dst.view.set]{fullShare} (dst.view.write Val g (src.view.read Val f) Finset.univ)) ∗ Fr))
      false ι ι' O N hN hO hr) $$ [Hs Hd HO HF] [Hγ] [Hg Ht Hr]
  · isplitl [Hs]; · iexact Hs
    isplitl [Hd HF]
    · iapply (writeUpdate_frame c')
      isplitl [Hd]
      · iapply (pointsTo_writeUpdate c' (v := dst.view) subset_rfl); iexact Hd
      · iexact HF
    · iexact HO
  · iapply (Transfers.flight_creditUpdate EC (δ := δ))
    isplitr; · iexact Hinv
    iexact Hγ
  · have h := land_credit E Rd (κ := κ) hd (X := iprop((dst.view.loc c' ↦[dst.view.set]{fullShare} (dst.view.write Val g (src.view.read Val f) Finset.univ)) ∗ Fr))
      (by refine Entails.trans ?_ hpay
          iintro ⟨H, HF⟩
          isplitl [H]
          · iexists (dst.view.write Val g (src.view.read Val f) Finset.univ)
            isplitr; · ipureintro; exact (View.read_write_univ _ _).trans hf
            iexact H
          · iexact HF)
    rw [ham] at h
    iapply h
    isplitl [Hg]; · iexact Hg
    isplitl [Ht] <;> iassumption
  iintro ⟨Hc, HO⟩
  iapply Hk
  isplitr [HO]
  · iapply (Transfers.Flight_mono c (EC := EC) (D := iprop(src.view.loc c ↦[src.view.set]{fullShare} f)) _)
    · iintro Hs
      iexists f
      isplitr; · ipureintro; exact hf
      iexact Hs
    · iapply (Transfers.flight_intro EC c (κ := κ') (γ := γ) (δ := δ))
      isplitr; · iexact Hinv
      isplitl [Hδ]; · iexact Hδ
      iexact Hc
  · iexact HO

/-! ## Loads and stores -/

/-- A load through a rectangle at equal offsets of an owned slice reads its contents. -/
theorem wp_load_win {cs : CoreSpace} {m : Memref sig c.2.kind cs s e} {off₀ off size : Fin s.rank → ℕ} {h₀ : ∀ a, off₀ a + size a ≤ s.size a}
    {h : ∀ a, off a + size a ≤ s.size a} (ho : off = off₀) {hl : m.view.LoadsAt (Rect.unit off size h).toLoadRect}
    {k : ((⟨s.rank, size⟩ : Shape).Idx → Val e) → Prog (TpuEff nD τ sig Val Λ c.2) α} {q : PosShare TreeShare} {X : (⟨s.rank, size⟩ : Shape).Idx → Val e} :
    (owns c (m.slice (Rect.unit off₀ size h₀) (fun _ => rfl)) q X)
      ⊢ iprop((owns c (m.slice (Rect.unit off₀ size h₀) (fun _ => rfl)) q X -∗ wp frame (wpE defs 𝒱 c bd) Set.univ (k X) Q)
          -∗ wp frame (wpE defs 𝒱 c bd) Set.univ (.op (.load m (Rect.unit off size h).toLoadRect hl) k) Q) := by
  subst ho
  iintro H Hk
  unfold owns
  icases H with ⟨%f, %hf, H⟩
  subst hf
  iapply (wp_load_rect 𝒱 c bd Set.univ (m := m) (r := Rect.unit off size h) (S := (m.access (Rect.unit off size h)).set) (Finset.Subset.refl _)) $$ H
  iintro H
  iapply Hk
  iexists f
  isplitr; · ipureintro; rfl
  iexact H

/-- A store through a rectangle at equal offsets of an owned slice leaves its payload. -/
theorem wp_store_win {cs : CoreSpace} {m : Memref sig c.2.kind cs s e} {off₀ off size : Fin s.rank → ℕ} {h₀ : ∀ a, off₀ a + size a ≤ s.size a}
    {h : ∀ a, off a + size a ≤ s.size a} (ho : off = off₀) {w : (⟨s.rank, size⟩ : Shape).Idx → Val e}
    {hx : (m.access (Rect.unit off size h)).Stores Finset.univ} {hm}
    {k : PUnit → Prog (TpuEff nD τ sig Val Λ c.2) α} {X : (⟨s.rank, size⟩ : Shape).Idx → Val e} :
    (owns c (m.slice (Rect.unit off₀ size h₀) (fun _ => rfl)) fullShare X)
      ⊢ iprop((owns c (m.slice (Rect.unit off₀ size h₀) (fun _ => rfl)) fullShare w -∗ wp frame (wpE defs 𝒱 c bd) Set.univ (k ⟨⟩) Q)
          -∗ wp frame (wpE defs 𝒱 c bd) Set.univ (.op (.store m (Rect.unit off size h) w Finset.univ hx hm) k) Q) := by
  subst ho
  iintro H Hk
  unfold owns
  icases H with ⟨%f, %hf, H⟩
  iapply (wp_store 𝒱 c bd Set.univ (m := m) (r := Rect.unit off size h) (S := (m.access (Rect.unit off size h)).set) (Finset.Subset.refl _)) $$ H
  iintro H
  iapply Hk
  iexists ((m.access (Rect.unit off size h)).write Val f w Finset.univ)
  isplitr
  rotate_left
  · iexact H
  · ipureintro; exact View.read_write_univ _ _

/-- A load of a whole memref. -/
theorem wp_load_all {cs : CoreSpace} {m : Memref sig c.2.kind cs s e} {off : Fin s.rank → ℕ}
    {h : ∀ a, off a + s.size a ≤ s.size a} {hl : m.view.LoadsAt (Rect.unit off s.size h).toLoadRect}
    {k : (s.Idx → Val e) → Prog (TpuEff nD τ sig Val Λ c.2) α} {q : PosShare TreeShare} {X : s.Idx → Val e} :
    (owns c m q X)
      ⊢ iprop((owns c m q X -∗ wp frame (wpE defs 𝒱 c bd) Set.univ (k X) Q)
          -∗ wp frame (wpE defs 𝒱 c bd) Set.univ (.op (.load m (Rect.unit off s.size h).toLoadRect hl) k) Q) := by
  iintro H Hk
  unfold owns
  icases H with ⟨%f, %hf, H⟩
  subst hf
  iapply (wp_load_rect 𝒱 c bd Set.univ (m := m) (r := Rect.unit off s.size h) (S := m.view.set) (m.view.set_slice_subset _)) $$ H
  iintro H
  have hX : (m.access (Rect.unit off s.size h)).read Val f = m.view.read Val f := by
    funext j
    show m.view.read Val f ((Rect.unit off s.size h).emb j) = m.view.read Val f j
    congr 1
    exact emb_full h j
  ihave Hk' := Hk $$ [H]
  · iexists f
    isplitr; · ipureintro; rfl
    iexact H
  · rw [hX]; iexact Hk'

/-- A store over a whole memref. -/
theorem wp_store_all {cs : CoreSpace} {m : Memref sig c.2.kind cs s e} {off : Fin s.rank → ℕ}
    {h : ∀ a, off a + s.size a ≤ s.size a} {w : s.Idx → Val e}
    {hx : (m.access (Rect.unit off s.size h)).Stores Finset.univ} {hm}
    {k : PUnit → Prog (TpuEff nD τ sig Val Λ c.2) α} {X : s.Idx → Val e} :
    (owns c m fullShare X)
      ⊢ iprop((owns c m fullShare w -∗ wp frame (wpE defs 𝒱 c bd) Set.univ (k ⟨⟩) Q)
          -∗ wp frame (wpE defs 𝒱 c bd) Set.univ (.op (.store m (Rect.unit off s.size h) w Finset.univ hx hm) k) Q) := by
  iintro H Hk
  unfold owns
  icases H with ⟨%f, %hf, H⟩
  iapply (wp_store 𝒱 c bd Set.univ (m := m) (r := Rect.unit off s.size h) (S := m.view.set) (m.view.set_slice_subset _)) $$ H
  iintro H
  iapply Hk
  iexists ((m.access (Rect.unit off s.size h)).write Val f w Finset.univ)
  isplitr
  rotate_left
  · iexact H
  · ipureintro
    have h1 := View.read_write_univ (v := m.access (Rect.unit off s.size h)) f w
    funext j
    have h2 := congrFun h1 j
    refine Eq.trans ?_ h2
    show m.view.read Val _ j = m.view.read Val _ ((Rect.unit off s.size h).emb j)
    congr 1
    exact (emb_full h j).symm

end Cert.Proof.Rules
-- ==== Proof.Common.lean ====
/-
  What the kernel's proof is stated over: the resource algebra, the buffers and cells by name,
  the contents every chunk has on its way, the schedule of the shared cells, what a device owes.
-/
module

public import proofs.«01_k».proof.Proof.Rules
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pointwise.Index
public import Mathlib.Algebra.BigOperators.Intervals

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the pipeline's rounds, the shared cells' rounds, the flights' counters -/

abbrev UX : Type := URounds (GSem nD τ sig) Unit
abbrev UU : Type := UR sig nD τ × (UX × Counters)

local notation "𝕄" => MT nD τ sig ℕ (Elt F) ℕ UU ℕ

abbrev EP : Emb (UR sig nD τ) (MT nD τ sig ℕ (Elt F) ℕ UU ℕ) := embL
def ER : Emb UX (MT nD τ sig ℕ (Elt F) ℕ UU ℕ) := (Emb.inl : Emb UX (UX × Counters)).trans embR
abbrev EC : UEmb Counters (MT nD τ sig ℕ (Elt F) ℕ UU ℕ) := countersEmb

instance ER_landsIn : (ER : Emb UX 𝕄).LandsIn (upEmb : UEmb _ 𝕄) := by unfold ER; infer_instance

/-! ## The devices -/

set_option backward.proofsInPublic true in
/-- The device at the other position along the axis the contraction is cut over. -/
def peer (c : Dev nD) : Dev nD := ⟨((c.val % 2) + 2) - 2 * (c.val / 2), by have h : c.val < 4 := c.isLt; show _ < 4; omega⟩

theorem peer_peer (c : Dev nD) : peer (peer c) = c := by revert c; decide
theorem peer_ne (c : Dev nD) : peer c ≠ c := by revert c; decide
def swap : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)

/-! ## Buffers and windows -/

abbrev AM : Memref sig .tc .hbm S4096x2048 .f32 := Memref.whole main_arg0
abbrev BM : Memref sig .tc .hbm S2048x4096 .f32 := Memref.whole main_arg1
abbrev OM : Memref sig .tc .hbm S4096x4096 .f32 := Memref.whole main_v1
abbrev bM : Memref sig .tc .vmem S2048x4096 .f32 := Memref.whole cc0_scratch0
abbrev aM : Memref sig .tc .vmem S2x128x2048 .f32 := Memref.whole cc0_scratch1
abbrev pM : Memref sig .tc .vmem S2x128x4096 .f32 := Memref.whole cc0_scratch2
abbrev rM : Memref sig .tc .vmem S4x128x4096 .f32 := Memref.whole cc0_scratch3
abbrev aeM : Memref sig .tc .vmem S64x2048 .f32 := Memref.whole cc0_scratch4
abbrev peM : Memref sig .tc .vmem S64x4096 .f32 := Memref.whole cc0_scratch5
abbrev reM : Memref sig .tc .vmem S64x4096 .f32 := Memref.whole cc0_scratch6

theorem inb_a (k : ℕ) : ∀ a, (![k % 2, 0, 0] : Fin 3 → ℕ) a + S1x128x2048.size a ≤ S2x128x2048.size a := fun a => by
  match a with
  | 0 => show k % 2 + 1 ≤ 2; omega
  | 1 => show 0 + 128 ≤ 128; omega
  | 2 => show 0 + 2048 ≤ 2048; omega
theorem inb_p (k : ℕ) : ∀ a, (![k % 2, 0, 0] : Fin 3 → ℕ) a + S1x128x4096.size a ≤ S2x128x4096.size a := fun a => by
  match a with
  | 0 => show k % 2 + 1 ≤ 2; omega
  | 1 => show 0 + 128 ≤ 128; omega
  | 2 => show 0 + 4096 ≤ 4096; omega
theorem inb_r (k : ℕ) : ∀ a, (![k % 4, 0, 0] : Fin 3 → ℕ) a + S1x128x4096.size a ≤ S4x128x4096.size a := fun a => by
  match a with
  | 0 => show k % 4 + 1 ≤ 4; omega
  | 1 => show 0 + 128 ≤ 128; omega
  | 2 => show 0 + 4096 ≤ 4096; omega

/-- The first row of chunk `k` (chunks are numbered from 1; the bound only makes it a row for every `k`). -/
def row (k : ℕ) : ℕ := min (64 + 128 * (k - 1)) 3968
theorem row_le (k : ℕ) : row k ≤ 3968 := Nat.min_le_right _ _
theorem row_eq {k : ℕ} (h : k ≤ 31) : row k = 64 + 128 * (k - 1) := Nat.min_eq_left (by omega)

theorem inb_ar (k : ℕ) : ∀ a, (![row k, 0] : Fin 2 → ℕ) a + S128x2048.size a ≤ S4096x2048.size a := fun a => by
  match a with
  | 0 => show row k + 128 ≤ 4096; have := row_le k; omega
  | 1 => show 0 + 2048 ≤ 2048; omega
theorem inb_or (k : ℕ) : ∀ a, (![row k, 0] : Fin 2 → ℕ) a + S128x4096.size a ≤ S4096x4096.size a := fun a => by
  match a with
  | 0 => show row k + 128 ≤ 4096; have := row_le k; omega
  | 1 => show 0 + 4096 ≤ 4096; omega

/-- The slot of chunk `k` in the buffers of two and of four slots, and its rows of `A` and of the result. -/
abbrev aW (k : ℕ) : Memref sig .tc .vmem S1x128x2048 .f32 := aM.slice (Rect.unit (s := S2x128x2048) ![k % 2, 0, 0] S1x128x2048.size (inb_a k)) (fun _ => rfl)
abbrev pW (k : ℕ) : Memref sig .tc .vmem S1x128x4096 .f32 := pM.slice (Rect.unit (s := S2x128x4096) ![k % 2, 0, 0] S1x128x4096.size (inb_p k)) (fun _ => rfl)
abbrev rW (k : ℕ) : Memref sig .tc .vmem S1x128x4096 .f32 := rM.slice (Rect.unit (s := S4x128x4096) ![k % 4, 0, 0] S1x128x4096.size (inb_r k)) (fun _ => rfl)
abbrev rA (k : ℕ) : Rect S4096x2048 := Rect.unit (s := S4096x2048) ![row k, 0] S128x2048.size (inb_ar k)
abbrev rO (k : ℕ) : Rect S4096x4096 := Rect.unit (s := S4096x4096) ![row k, 0] S128x4096.size (inb_or k)

theorem aW_congr {k k' : ℕ} (h : k % 2 = k' % 2) : aW k = aW k' := by
  have : (![k % 2, 0, 0] : Fin 3 → ℕ) = ![k' % 2, 0, 0] := by rw [h]
  unfold aW; congr 1; exact Rect.unit_congr this _ _
theorem pW_congr {k k' : ℕ} (h : k % 2 = k' % 2) : pW k = pW k' := by
  have : (![k % 2, 0, 0] : Fin 3 → ℕ) = ![k' % 2, 0, 0] := by rw [h]
  unfold pW; congr 1; exact Rect.unit_congr this _ _
theorem rW_congr {k k' : ℕ} (h : k % 4 = k' % 4) : rW k = rW k' := by
  have : (![k % 4, 0, 0] : Fin 3 → ℕ) = ![k' % 4, 0, 0] := by rw [h]
  unfold rW; congr 1; exact Rect.unit_congr this _ _

/-! ## Semaphores and cells -/

abbrev barS : Sem sig := (SemArray.scalar (sig.barrier 0 rfl) : Sems sig S_).sem
abbrev sB : DmaSem sig := (0 : Fin 15)
abbrev sAE : DmaSem sig := (3 : Fin 15)
abbrev sOE : DmaSem sig := (6 : Fin 15)
abbrev sES : DmaSem sig := (13 : Fin 15)
abbrev sER : DmaSem sig := (14 : Fin 15)
set_option backward.proofsInPublic true in
def sA (k : ℕ) : DmaSem sig := (⟨1 + k % 2, by omega⟩ : Fin 15)
set_option backward.proofsInPublic true in
def sO (k : ℕ) : DmaSem sig := (⟨4 + k % 2, by omega⟩ : Fin 15)
set_option backward.proofsInPublic true in
def sS (k : ℕ) : DmaSem sig := (⟨7 + k % 2, by omega⟩ : Fin 15)
set_option backward.proofsInPublic true in
def sR (k : ℕ) : DmaSem sig := (⟨9 + k % 4, by omega⟩ : Fin 15)

theorem sA_congr {k k' : ℕ} (h : k % 2 = k' % 2) : sA k = sA k' := by unfold sA; simp only [h]
theorem sO_congr {k k' : ℕ} (h : k % 2 = k' % 2) : sO k = sO k' := by unfold sO; simp only [h]
theorem sS_congr {k k' : ℕ} (h : k % 2 = k' % 2) : sS k = sS k' := by unfold sS; simp only [h]
theorem sR_congr {k k' : ℕ} (h : k % 4 = k' % 4) : sR k = sR k' := by unfold sR; simp only [h]

set_option backward.proofsInPublic true in
/-- The one index of a row of one. -/
def one0 : S1.Idx := fun a => ⟨0, by match a with | 0 => exact Nat.one_pos⟩
theorem s1_eq (j : S1.Idx) : j = one0 := by
  funext a
  match a with
  | 0 => exact Fin.ext (by have : (j 0).val < 1 := (j 0).isLt; show (j 0).val = 0; omega)

theorem sem_a {k : ℕ} {off : Fin 1 → ℕ} (ho : off = ![k % 2]) (h : ∀ a, off a + S1.size a ≤ S2.size a) (hs : S1.Squeezes S_) :
    ((cc0_scratch8.slice (Rect.unit (s := S2) off S1.size h)).squeeze S_ hs).sem = sA k := by
  obtain hk | hk : k % 2 = 0 ∨ k % 2 = 1 := by omega
  all_goals rw [hk] at ho; subst ho
  · rw [sA_congr (k' := 0) hk]
    exact congrArg (fun j => cc0_scratch8.ix ((Rect.unit (s := S2) ![0] S1.size h).emb j)) (s1_eq _)
  · rw [sA_congr (k' := 1) hk]
    exact congrArg (fun j => cc0_scratch8.ix ((Rect.unit (s := S2) ![1] S1.size h).emb j)) (s1_eq _)
theorem sem_o {k : ℕ} {off : Fin 1 → ℕ} (ho : off = ![k % 2]) (h : ∀ a, off a + S1.size a ≤ S2.size a) (hs : S1.Squeezes S_) :
    ((cc0_scratch10.slice (Rect.unit (s := S2) off S1.size h)).squeeze S_ hs).sem = sO k := by
  obtain hk | hk : k % 2 = 0 ∨ k % 2 = 1 := by omega
  all_goals rw [hk] at ho; subst ho
  · rw [sO_congr (k' := 0) hk]
    exact congrArg (fun j => cc0_scratch10.ix ((Rect.unit (s := S2) ![0] S1.size h).emb j)) (s1_eq _)
  · rw [sO_congr (k' := 1) hk]
    exact congrArg (fun j => cc0_scratch10.ix ((Rect.unit (s := S2) ![1] S1.size h).emb j)) (s1_eq _)
theorem sem_s {k : ℕ} {off : Fin 1 → ℕ} (ho : off = ![k % 2]) (h : ∀ a, off a + S1.size a ≤ S2.size a) (hs : S1.Squeezes S_) :
    ((cc0_scratch12.slice (Rect.unit (s := S2) off S1.size h)).squeeze S_ hs).sem = sS k := by
  obtain hk | hk : k % 2 = 0 ∨ k % 2 = 1 := by omega
  all_goals rw [hk] at ho; subst ho
  · rw [sS_congr (k' := 0) hk]
    exact congrArg (fun j => cc0_scratch12.ix ((Rect.unit (s := S2) ![0] S1.size h).emb j)) (s1_eq _)
  · rw [sS_congr (k' := 1) hk]
    exact congrArg (fun j => cc0_scratch12.ix ((Rect.unit (s := S2) ![1] S1.size h).emb j)) (s1_eq _)
theorem sem_r {k : ℕ} {off : Fin 1 → ℕ} (ho : off = ![k % 4]) (h : ∀ a, off a + S1.size a ≤ S4.size a) (hs : S1.Squeezes S_) :
    ((cc0_scratch13.slice (Rect.unit (s := S4) off S1.size h)).squeeze S_ hs).sem = sR k := by
  obtain hk | hk | hk | hk : k % 4 = 0 ∨ k % 4 = 1 ∨ k % 4 = 2 ∨ k % 4 = 3 := by omega
  all_goals rw [hk] at ho; subst ho
  · rw [sR_congr (k' := 0) hk]
    exact congrArg (fun j => cc0_scratch13.ix ((Rect.unit (s := S4) ![0] S1.size h).emb j)) (s1_eq _)
  · rw [sR_congr (k' := 1) hk]
    exact congrArg (fun j => cc0_scratch13.ix ((Rect.unit (s := S4) ![1] S1.size h).emb j)) (s1_eq _)
  · rw [sR_congr (k' := 2) hk]
    exact congrArg (fun j => cc0_scratch13.ix ((Rect.unit (s := S4) ![2] S1.size h).emb j)) (s1_eq _)
  · rw [sR_congr (k' := 3) hk]
    exact congrArg (fun j => cc0_scratch13.ix ((Rect.unit (s := S4) ![3] S1.size h).emb j)) (s1_eq _)

theorem sem_b : (cc0_scratch7 : DmaSems sig S_).sem = sB := rfl
theorem sem_ae : (cc0_scratch9 : DmaSems sig S_).sem = sAE := rfl
theorem sem_oe : (cc0_scratch11 : DmaSems sig S_).sem = sOE := rfl
theorem sem_es : (cc0_scratch14 : DmaSems sig S_).sem = sES := rfl
theorem sem_er : (cc0_scratch15 : DmaSems sig S_).sem = sER := rfl

abbrev barCell (c : Dev nD) : GSem nD τ sig := ((c : Thread nD τ), .reg barS)
abbrev rCell (c : Dev nD) (k : ℕ) : GSem nD τ sig := ((c : Thread nD τ), .dma (sR k))
abbrev eCell (c : Dev nD) : GSem nD τ sig := ((c : Thread nD τ), .dma sER)

/-- The credits of the copies, by what they move. -/
abbrev NB : ℕ := (cc0_scratch0 : Ref sig .tc).dmaCredit S2048x4096 .f32
abbrev NA : ℕ := (cc0_scratch1 : Ref sig .tc).dmaCredit S128x2048 .f32
abbrev NAE : ℕ := (cc0_scratch4 : Ref sig .tc).dmaCredit S64x2048 .f32
abbrev NO : ℕ := (main_v1 : Ref sig .tc).dmaCredit S128x4096 .f32
abbrev NOE : ℕ := (main_v1 : Ref sig .tc).dmaCredit S64x4096 .f32
abbrev NR : ℕ := (cc0_scratch3 : Ref sig .tc).dmaCredit S128x4096 .f32
abbrev NE : ℕ := (cc0_scratch6 : Ref sig .tc).dmaCredit S64x4096 .f32

theorem NR_send : (cc0_scratch2 : Ref sig .tc).dmaCredit S128x4096 .f32 = NR := rfl
theorem NE_send : (cc0_scratch5 : Ref sig .tc).dmaCredit S64x4096 .f32 = NE := rfl

theorem NR_pos : 0 < NR := View.dmaCredit_pos (rW 0 |>.squeeze S128x4096 squeezes_S1x128x4096_S128x4096).view (by decide)
theorem NA_pos : 0 < NA := View.dmaCredit_pos (aW 0 |>.squeeze S128x2048 squeezes_S1x128x2048_S128x2048).view (by decide)
theorem NE_pos : 0 < NE := View.dmaCredit_pos reM.view (by decide)
theorem NAE_pos : 0 < NAE := View.dmaCredit_pos aeM.view (by decide)
theorem NB_pos : 0 < NB := View.dmaCredit_pos bM.view (by decide)
theorem NO_pos : 0 < NO := View.dmaCredit_pos (OM.slice (rO 1) (fun _ => rfl)).view (by decide)
theorem NOE_pos : 0 < NOE := View.dmaCredit_pos (OM.slice (Rect.unit (s := S4096x4096) ![0, 0] S64x4096.size inb_S4096x4096_S64x4096_0_0) (fun _ => rfl)).view (by decide)

/-! ## Contents -/

variable (m : (ℓ : Loc nD τ sig) → Buf (Elt F) ℓ) (ρ : Dev nD → PrngReg)

/-- A device's blocks of the two matrices. -/
def Ac (c : Dev nD) : S4096x2048.Idx → Elt F .f32 := m ((c : Thread nD τ).loc main_arg0)
def Bc (c : Dev nD) : S2048x4096.Idx → Elt F .f32 := m ((c : Thread nD τ).loc main_arg1)

/-- The contents of a slot of one, read flat, and back. -/
def flat {e : EltTy} (X : S1x128x4096.Idx → Elt F e) : S128x4096.Idx → Elt F e := fun j => X (Shape.reshapeEquiv squeezes_S1x128x4096_S128x4096.numel_eq j)
def lift {e : EltTy} (X : S128x4096.Idx → Elt F e) : S1x128x4096.Idx → Elt F e := fun j => X ((Shape.reshapeEquiv squeezes_S1x128x4096_S128x4096.numel_eq).symm j)
def flatA {e : EltTy} (X : S1x128x2048.Idx → Elt F e) : S128x2048.Idx → Elt F e := fun j => X (Shape.reshapeEquiv squeezes_S1x128x2048_S128x2048.numel_eq j)
def liftA {e : EltTy} (X : S128x2048.Idx → Elt F e) : S1x128x2048.Idx → Elt F e := fun j => X ((Shape.reshapeEquiv squeezes_S1x128x2048_S128x2048.numel_eq).symm j)

theorem flatA_liftA {e : EltTy} (X : S128x2048.Idx → Elt F e) : flatA (liftA X) = X := by
  funext j; unfold flatA liftA; rw [Equiv.symm_apply_apply]

/-- Chunk `k` of the block of `A`, flat; its product with the block of `B`; the two devices' sum. -/
def aFlat (c : Dev nD) (k : ℕ) : S128x2048.Idx → Elt F .f32 := fun j => Ac m c ((rA k).emb j)
def aBlk (c : Dev nD) (k : ℕ) : S1x128x2048.Idx → Elt F .f32 := liftA (aFlat m c k)
def part (c : Dev nD) (k : ℕ) : S1x128x4096.Idx → Elt F .f32 := k0_pay2 (aBlk m c k) (Bc m c)
def sumC (c : Dev nD) (k : ℕ) : S1x128x4096.Idx → Elt F .f32 := k0_pay6 (k0_pay1 (part m c k)) (part m (peer c) k)

abbrev rE0 : Rect S4096x2048 := Rect.unit (s := S4096x2048) ![0, 0] S64x2048.size inb_S4096x2048_S64x2048_0_0
abbrev rE1 : Rect S4096x2048 := Rect.unit (s := S4096x2048) ![4032, 0] S64x2048.size inb_S4096x2048_S64x2048_4032_0
abbrev rOE0 : Rect S4096x4096 := Rect.unit (s := S4096x4096) ![0, 0] S64x4096.size inb_S4096x4096_S64x4096_0_0
abbrev rOE1 : Rect S4096x4096 := Rect.unit (s := S4096x4096) ![4032, 0] S64x4096.size inb_S4096x4096_S64x4096_4032_0

/-- The two chunks of 64 rows at the ends, the same way. -/
def aE0 (c : Dev nD) : S64x2048.Idx → Elt F .f32 := fun j => Ac m c (rE0.emb j)
def aE1 (c : Dev nD) : S64x2048.Idx → Elt F .f32 := fun j => Ac m c (rE1.emb j)
def pE0 (c : Dev nD) : S64x4096.Idx → Elt F .f32 := k0_pay4 (k0_pay3 (aE0 m c) (Bc m c))
def pE1 (c : Dev nD) : S64x4096.Idx → Elt F .f32 := k0_pay7 (aE1 m c) (Bc m c)
def sE0 (c : Dev nD) : S64x4096.Idx → Elt F .f32 := k0_pay5 (pE0 m c) (pE0 m (peer c))
def sE1 (c : Dev nD) : S64x4096.Idx → Elt F .f32 := k0_pay11 (pE1 m c) (pE1 m (peer c))

set_option backward.proofsInPublic true in
/-- The result block: row by row what the chunk the row lies in gives. -/
def outV (c : Dev nD) : S4096x4096.Idx → Elt F .f32 := fun i =>
  if h : (i 0).val < 64 then sE0 m c (ix2 (⟨(i 0).val, h⟩ : Fin 64) (i 1 : Fin 4096))
  else if h' : 4032 ≤ (i 0).val then
    sE1 m c (ix2 (⟨(i 0).val - 4032, by have : (i 0).val < 4096 := (i 0).isLt; omega⟩ : Fin 64) (i 1 : Fin 4096))
  else flat (sumC m c (((i 0).val - 64) / 128 + 1)) (ix2 (⟨((i 0).val - 64) % 128, Nat.mod_lt _ (by decide)⟩ : Fin 128) (i 1 : Fin 4096))

/-! ## Ownership of the result's rows -/

/-- The rows from `a` on below `b`. -/
def rowsF (a b : ℕ) : Finset S4096x4096.Idx := Finset.univ.filter fun i => a ≤ (i 0).val ∧ (i 0).val < b

def outR (c : Dev nD) (a b : ℕ) (f : S4096x4096.Idx → Elt F .f32) : sProp 𝕄 := ((c : Thread nD τ).loc main_v1) ↦[rowsF a b]{fullShare} f

/-! ## The schedule of the shared cells -/

/-- The round of its receive cell that chunk `k` is. -/
def rnd (k : ℕ) : ℕ := (k - 1) / 4

/-- A chunk's slot on a device, at contents. -/
abbrev aS (c : Dev nD) (k : ℕ) (X : S1x128x2048.Idx → Elt F .f32) : sProp 𝕄 := owns (c : Thread nD τ) (aW k) fullShare X
abbrev pS (c : Dev nD) (k : ℕ) (X : S1x128x4096.Idx → Elt F .f32) : sProp 𝕄 := owns (c : Thread nD τ) (pW k) fullShare X
abbrev rS (c : Dev nD) (k : ℕ) (X : S1x128x4096.Idx → Elt F .f32) : sProp 𝕄 := owns (c : Thread nD τ) (rW k) fullShare X
abbrev reS (c : Dev nD) (X : S64x4096.Idx → Elt F .f32) : sProp 𝕄 := owns (c : Thread nD τ) reM fullShare X
abbrev peS (c : Dev nD) (X : S64x4096.Idx → Elt F .f32) : sProp 𝕄 := owns (c : Thread nD τ) peM fullShare X
abbrev aeS (c : Dev nD) (X : S64x2048.Idx → Elt F .f32) : sProp 𝕄 := owns (c : Thread nD τ) aeM fullShare X

/-- What the sender `d` of chunk `k` hands over beside the chunk: with chunk 2 its edge buffer, read; with the chunks
    3 to 29 its slot freed last, for the receiver's chunk `k + 2`. -/
def give (d : Dev nD) (k : ℕ) : sProp 𝕄 :=
  if k = 2 then iprop((∃ X, reS d X) ∗ reached ER (eCell d) 1)
  else if 3 ≤ k ∧ k ≤ 29 then iprop((∃ X, rS d (k + 2) X) ∗ reached ER (rCell d (k + 2)) (rnd (k + 2)))
  else iprop(emp)

def recvPay (c : Dev nD) (k : ℕ) : sProp 𝕄 := iprop(rS c k (part m (peer c) k) ∗ give (peer c) k)
def edgePay (c : Dev nD) (r : ℕ) : sProp 𝕄 := if r = 0 then reS c (pE0 m (peer c)) else reS c (pE1 m (peer c))
def barPay (c : Dev nD) : sProp 𝕄 := iprop((∃ f, ((peer c : Thread nD τ).loc cc0_scratch3) ↦{fullShare} f) ∗ (∃ X, reS (peer c) X))

instance give_storable (d : Dev nD) (k : ℕ) : Storable (upEmb : UEmb _ 𝕄) (give (F := F) d k) := by
  unfold give; (repeat' split) <;> infer_instance
instance recvPay_storable (c : Dev nD) (k : ℕ) : Storable (upEmb : UEmb _ 𝕄) (recvPay m c k) := by unfold recvPay; infer_instance
instance edgePay_storable (c : Dev nD) (k : ℕ) : Storable (upEmb : UEmb _ 𝕄) (edgePay m c k) := by
  unfold edgePay; split <;> infer_instance
instance barPay_storable (c : Dev nD) : Storable (upEmb : UEmb _ 𝕄) (barPay (F := F) c) := by unfold barPay; infer_instance

/-- Which receive semaphore a semaphore is, if one: 0 to 3. -/
def slotNo (s : SemLoc sig) : Option ℕ :=
  if s = .dma (sR 0) then some 0 else if s = .dma (sR 1) then some 1 else if s = .dma (sR 2) then some 2 else if s = .dma (sR 3) then some 3 else none

/-- The chunk that is round `r` of receive semaphore `j`. -/
def chunkNo (j r : ℕ) : ℕ := 4 * r + (if j = 0 then 4 else j)

theorem slotNo_sR (k : ℕ) : slotNo (.dma (sR k)) = some (k % 4) := by
  have hk : k % 4 < 4 := Nat.mod_lt _ (by decide)
  rw [sR_congr (k := k) (k' := k % 4) (by omega)]
  generalize k % 4 = n at *
  obtain rfl | rfl | rfl | rfl : n = 0 ∨ n = 1 ∨ n = 2 ∨ n = 3 := by omega
  all_goals decide

theorem chunkNo_rnd {k : ℕ} (hk : 1 ≤ k) : chunkNo (k % 4) (rnd k) = k := by
  unfold chunkNo rnd; split <;> omega

def Rd : Rounds.Schedule (GSem nD τ sig) Unit 𝕄 where
  duties g r :=
    if g.1.2 = .tc then
      if g.2 = .reg barS then (if r = 0 then {()} else ∅)
      else if g.2 = .dma sER then (if r < 2 then {()} else ∅)
      else match slotNo g.2 with
        | some j => if chunkNo j r < 32 then {()} else ∅
        | none => ∅
    else ∅
  unitless _ := False
  amount g _ _ := if g.2 = .reg barS then 1 else if g.2 = .dma sER then NE else NR
  payload g r _ :=
    if g.2 = .reg barS then barPay g.1.1
    else if g.2 = .dma sER then edgePay m g.1.1 r
    else match slotNo g.2 with
      | some j => recvPay m g.1.1 (chunkNo j r)
      | none => iprop(emp)
  amount_pos g _ _ _ := by
    (repeat' split)
    · exact Nat.one_pos
    · exact NE_pos
    · exact NR_pos

instance Rd_storable (g : GSem nD τ sig) (r : ℕ) (d : Unit) : Storable (upEmb : UEmb _ 𝕄) ((Rd (F := F) m).payload g r d) := by
  show Storable upEmb (if g.2 = .reg barS then barPay g.1.1 else if g.2 = .dma sER then edgePay m g.1.1 r
    else match slotNo g.2 with | some j => recvPay m g.1.1 (chunkNo j r) | none => iprop(emp))
  (repeat' split) <;> infer_instance

theorem sR_ne_bar (k : ℕ) : (SemLoc.dma (sR k) : SemLoc sig) ≠ .reg barS := fun h => by cases h
theorem sER_ne_bar : (SemLoc.dma sER : SemLoc sig) ≠ .reg barS := fun h => by cases h
theorem sR_val (k : ℕ) : (sR k : Fin 15).val = 9 + k % 4 := rfl
theorem sR_ne_sER (k : ℕ) : (SemLoc.dma (sR k) : SemLoc sig) ≠ .dma sER := fun h => by
  have h' : sR k = sER := by injection h
  have := congrArg (fun x : Fin 15 => x.val) h'
  have h2 : (sER : Fin 15).val = 14 := rfl
  simp only [sR_val] at this
  omega

section Sched
variable (c : Dev nD)

theorem duties_bar : (Rd (F := F) m).duties (barCell c) 0 = {()} := by
  dsimp only [Rd]; rw [if_pos rfl, if_pos rfl, if_pos rfl]
theorem duties_edge {r : ℕ} (h : r < 2) : (Rd (F := F) m).duties (eCell c) r = {()} := by
  dsimp only [Rd]; rw [if_pos rfl, if_neg sER_ne_bar, if_pos rfl, if_pos h]
theorem duties_recv {k : ℕ} (h1 : 1 ≤ k) (h : k < 32) : (Rd (F := F) m).duties (rCell c k) (rnd k) = {()} := by
  dsimp only [Rd]; rw [if_pos rfl, if_neg (sR_ne_bar k), if_neg (sR_ne_sER k), slotNo_sR]
  show (if chunkNo (k % 4) (rnd k) < 32 then ({()} : Finset Unit) else ∅) = {()}
  rw [chunkNo_rnd h1, if_pos h]
theorem later_bar : ∀ r, 1 ≤ r → (Rd (F := F) m).duties (barCell c) r = ∅ := fun r hr => by
  dsimp only [Rd]; rw [if_pos rfl, if_pos rfl, if_neg (by omega)]
theorem later_edge : ∀ r, 2 ≤ r → (Rd (F := F) m).duties (eCell c) r = ∅ := fun r hr => by
  dsimp only [Rd]; rw [if_pos rfl, if_neg sER_ne_bar, if_pos rfl, if_neg (by omega)]
theorem later_recv (k : ℕ) (h : 32 ≤ k) : ∀ r, rnd k ≤ r → (Rd (F := F) m).duties (rCell c k) r = ∅ := fun r hr => by
  dsimp only [Rd]; rw [if_pos rfl, if_neg (sR_ne_bar k), if_neg (sR_ne_sER k), slotNo_sR]
  show (if chunkNo (k % 4) r < 32 then ({()} : Finset Unit) else ∅) = ∅
  rw [if_neg]
  unfold chunkNo; unfold rnd at hr; split <;> omega

theorem amount_bar (r : ℕ) (d : Unit) : (Rd (F := F) m).amount (barCell c) r d = 1 := by dsimp only [Rd]; exact if_pos rfl
theorem amount_edge (r : ℕ) (d : Unit) : (Rd (F := F) m).amount (eCell c) r d = NE := by
  dsimp only [Rd]; rw [if_neg sER_ne_bar, if_pos rfl]
theorem amount_recv (k r : ℕ) (d : Unit) : (Rd (F := F) m).amount (rCell c k) r d = NR := by
  dsimp only [Rd]; rw [if_neg (sR_ne_bar k), if_neg (sR_ne_sER k)]

theorem expect_bar : (Rd (F := F) m).expect (barCell c) 0 = 1 := by
  unfold Schedule.expect Schedule.amountOf; rw [duties_bar, Finset.sum_singleton, amount_bar]
theorem expect_edge {r : ℕ} (h : r < 2) : (Rd (F := F) m).expect (eCell c) r = NE := by
  unfold Schedule.expect Schedule.amountOf; rw [duties_edge m c h, Finset.sum_singleton, amount_edge]
theorem expect_recv {k : ℕ} (h1 : 1 ≤ k) (h : k < 32) : (Rd (F := F) m).expect (rCell c k) (rnd k) = NR := by
  unfold Schedule.expect Schedule.amountOf; rw [duties_recv m c h1 h, Finset.sum_singleton, amount_recv]

theorem payload_bar (r : ℕ) (d : Unit) : (Rd (F := F) m).payload (barCell c) r d = barPay c := by dsimp only [Rd]; rw [if_pos rfl]
theorem payload_edge (r : ℕ) (d : Unit) : (Rd (F := F) m).payload (eCell c) r d = edgePay m c r := by
  dsimp only [Rd]; rw [if_neg sER_ne_bar, if_pos rfl]
theorem payload_recv {k : ℕ} (h1 : 1 ≤ k) (d : Unit) : (Rd (F := F) m).payload (rCell c k) (rnd k) d = recvPay m c k := by
  dsimp only [Rd]; rw [if_neg (sR_ne_bar k), if_neg (sR_ne_sER k), slotNo_sR]
  show recvPay m c (chunkNo (k % 4) (rnd k)) = _
  rw [chunkNo_rnd h1]

theorem rest_bar : bigSep ((Rd (F := F) m).duties (barCell c) 0 \ ∅) (fun d => (Rd (F := F) m).payload (barCell c) 0 d) = barPay c := by
  rw [Finset.sdiff_empty, duties_bar, bigSep_singleton, payload_bar]
theorem rest_edge {r : ℕ} (h : r < 2) : bigSep ((Rd (F := F) m).duties (eCell c) r \ ∅) (fun d => (Rd (F := F) m).payload (eCell c) r d) = edgePay m c r := by
  rw [Finset.sdiff_empty, duties_edge m c h, bigSep_singleton, payload_edge]
theorem rest_recv {k : ℕ} (h1 : 1 ≤ k) (h : k < 32) :
    bigSep ((Rd (F := F) m).duties (rCell c k) (rnd k) \ ∅) (fun d => (Rd (F := F) m).payload (rCell c k) (rnd k) d) = recvPay m c k := by
  rw [Finset.sdiff_empty, duties_recv m c h1 h, bigSep_singleton, payload_recv m c h1]

end Sched

/-! ## What a device owes; the levels -/

/-- What is owed before chunk `k + 1` is sent: the chunks after `k` and the last edge chunk, to the peer. -/
def Ow (c : Dev nD) (k : ℕ) : CellTallies nD τ sig ℕ :=
  (∑ j ∈ Finset.Ico (k + 1) 32, tallyAt (rCell (peer c) j) j NR) + tallyAt (eCell (peer c)) 32 NE
def Ow1 (c : Dev nD) : CellTallies nD τ sig ℕ := Ow c 0 + tallyAt (eCell (peer c)) 0 NE
def O₀ (c : Dev nD) : CellTallies nD τ sig ℕ := Ow1 c + tallyAt (barCell (peer c)) 0 1

theorem Ow_succ (c : Dev nD) {k : ℕ} (h : k < 31) : Ow c k = Ow c (k + 1) + tallyAt (rCell (peer c) (k + 1)) (k + 1) NR := by
  unfold Ow
  rw [Finset.sum_eq_sum_Ico_succ_bot (by omega)]
  rw [add_comm (tallyAt (rCell (peer c) (k + 1)) (k + 1) NR), add_right_comm]
theorem Ow_last (c : Dev nD) : Ow c 31 = 0 + tallyAt (eCell (peer c)) 32 NE := by
  unfold Ow; rw [Finset.Ico_self, Finset.sum_empty]

def L (g : GSem nD τ sig) : Finset ℕ := if g.1.2 = .tc then Finset.range 33 else ∅
def lv (g : GSem nD τ sig) (ι : ℕ) : ℕ :=
  if g.2 = .reg barS then 1 else if g.2 = .dma sER then 2 + ι else if (slotNo g.2).isSome then 2 + ι else 0

theorem L_of_ne (g : GSem nD τ sig) (h : g.1.2 ≠ .tc) : L g = ∅ := if_neg h
theorem L_tc (c : Dev nD) (sm : SemLoc sig) : L ((c : Thread nD τ), sm) = Finset.range 33 := if_pos rfl
theorem lv_bar (c : Dev nD) (i : ℕ) : lv (barCell c) i = 1 := if_pos rfl
theorem lv_edge (c : Dev nD) (i : ℕ) : lv (eCell c) i = 2 + i := by unfold lv; rw [if_neg sER_ne_bar, if_pos rfl]
theorem lv_recv (c : Dev nD) (k i : ℕ) : lv (rCell c k) i = 2 + i := by
  unfold lv; rw [if_neg (sR_ne_bar k), if_neg (sR_ne_sER k), slotNo_sR]; rfl

/-- Where something is owed: a receive cell at a chunk not yet sent, or the edge cell at its last. -/
theorem Ow_pos {c : Dev nD} {k : ℕ} {g : GSem nD τ sig} {u : ℕ} (h : 0 < Ow c k g u) :
    (∃ j, k + 1 ≤ j ∧ j < 32 ∧ g = rCell (peer c) j ∧ u = j) ∨ (g = eCell (peer c) ∧ u = 32) := by
  unfold Ow at h
  rw [Pi.add_apply, Finsupp.add_apply, tallyAt_apply] at h
  by_cases h2 : g = eCell (peer c) ∧ u = 32
  · exact .inr h2
  · rw [if_neg h2, Nat.add_zero, Finset.sum_apply, Finsupp.finset_sum_apply] at h
    obtain ⟨j, hj, hp⟩ := Finset.exists_ne_zero_of_sum_ne_zero (Nat.pos_iff_ne_zero.mp h)
    rw [tallyAt_apply] at hp
    have hp' : g = rCell (peer c) j ∧ u = j := by by_contra hn; exact hp (if_neg hn)
    obtain ⟨h1, h3⟩ := Finset.mem_Ico.mp hj
    exact .inl ⟨j, h1, h3, hp'.1, hp'.2⟩

/-- The general form of a wait's evidence: the wait's level is at most the cut, everything owed above it. -/
theorem mayWait_of (c : Dev nD) (sm : SemLoc sig) (ι : ℕ) (O : CellTallies nD τ sig ℕ) (cut : ℕ) (hι : ι < 33)
    (hO : ∀ g u, 0 < O g u → g.1.2 = .tc ∧ u < 33 ∧ cut < lv g u) (hc : lv ((c : Thread nD τ), sm) ι ≤ cut) :
    (levAts L lv : sProp 𝕄) ⊢ MayWait (c : Thread nD τ) sm ι O :=
  MayOwe.of_cut (L := L) (lev := lv) cut
    (fun p hp => by rw [Finset.mem_singleton.mp hp, L_tc]; exact Finset.mem_range.mpr hι)
    (fun g u hg => by obtain ⟨h1, h2, -⟩ := hO g u hg; unfold L; rw [if_pos h1]; exact Finset.mem_range.mpr h2)
    (fun p hp => by rw [Finset.mem_singleton.mp hp]; exact hc)
    (fun g u hg => (hO g u hg).2.2)

theorem Ow_above {c : Dev nD} {k : ℕ} (hk : k ≤ 31) : ∀ g u, 0 < Ow c k g u → g.1.2 = .tc ∧ u < 33 ∧ 2 + k < lv g u := fun g u hg => by
  rcases Ow_pos hg with ⟨j, h1, h2, rfl, rfl⟩ | ⟨rfl, rfl⟩
  · rw [lv_recv]; exact ⟨rfl, by omega, by omega⟩
  · rw [lv_edge]; exact ⟨rfl, by omega, by omega⟩
theorem Ow1_above {c : Dev nD} : ∀ g u, 0 < Ow1 c g u → g.1.2 = .tc ∧ u < 33 ∧ 1 < lv g u := fun g u hg => by
  unfold Ow1 at hg
  rw [Pi.add_apply, Finsupp.add_apply, tallyAt_apply] at hg
  by_cases h2 : g = eCell (peer c) ∧ u = 0
  · obtain ⟨rfl, rfl⟩ := h2
    rw [lv_edge]; exact ⟨rfl, by omega, by omega⟩
  · rw [if_neg h2, Nat.add_zero] at hg
    obtain ⟨a, b, d⟩ := Ow_above (by omega) g u hg
    exact ⟨a, b, by omega⟩

end Cert.Proof.MM
-- ==== Proof.Steps.lean ====
/-
  The kernel's operations, each at a symbolic chunk: the waits, the copies in and out, the sends.
-/
module

public import proofs.«01_k».proof.Proof.Common

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

/-! ## The shared cells' records -/

theorem rCell_congr (c : Dev nD) {k k' : ℕ} (h : k % 4 = k' % 4) : rCell c k = rCell c k' :=
  congrArg (fun s : DmaSem sig => (((c : Thread nD τ), SemLoc.dma s) : GSem nD τ sig)) (sR_congr h)

/-- A device's cells: the barrier, the four receive cells, the edge cell. -/
def cellAt (p : Dev nD × Fin 6) : GSem nD τ sig :=
  if p.2.val = 0 then barCell p.1 else if p.2.val = 5 then eCell p.1 else rCell p.1 p.2.val

theorem cellAt_bar (c : Dev nD) : cellAt (c, 0) = barCell c := rfl
theorem cellAt_edge (c : Dev nD) : cellAt (c, 5) = eCell c := rfl
set_option backward.proofsInPublic true in
theorem cellAt_recv (c : Dev nD) (k : ℕ) : cellAt (c, ⟨(k + 3) % 4 + 1, by omega⟩) = rCell c k := by
  unfold cellAt
  rw [if_neg (by show ¬ ((k + 3) % 4 + 1 = 0); omega), if_neg (by show ¬ ((k + 3) % 4 + 1 = 5); omega)]
  show rCell c ((k + 3) % 4 + 1) = _
  exact rCell_congr c (by omega)

/-- Every cell's invariant, and the mark of its first round. -/
def Recs (K : GSem nD τ sig → ℕ) : sProp 𝕄 :=
  bigSep (Finset.univ : Finset (Dev nD × Fin 6)) fun p => iprop(cellInv ER (Rd m) (K (cellAt p)) (cellAt p) ∗ reached ER (cellAt p) 0)

instance Recs_persistent (K : GSem nD τ sig → ℕ) : BI.Persistent (Recs m K) := by unfold Recs; infer_instance

theorem Recs_at (K : GSem nD τ sig → ℕ) (p : Dev nD × Fin 6) :
    Recs m K ⊢ iprop(cellInv ER (Rd m) (K (cellAt p)) (cellAt p) ∗ reached ER (cellAt p) 0) := BI.bigSep_elim (Finset.mem_univ p)
theorem Recs_bar (K : GSem nD τ sig → ℕ) (c : Dev nD) :
    Recs m K ⊢ iprop(cellInv ER (Rd m) (K (barCell c)) (barCell c) ∗ reached ER (barCell c) 0) := by
  have := Recs_at m K (c, 0); rwa [cellAt_bar] at this
theorem Recs_edge (K : GSem nD τ sig → ℕ) (c : Dev nD) :
    Recs m K ⊢ iprop(cellInv ER (Rd m) (K (eCell c)) (eCell c) ∗ reached ER (eCell c) 0) := by
  have := Recs_at m K (c, 5); rwa [cellAt_edge] at this
theorem Recs_recv (K : GSem nD τ sig → ℕ) (c : Dev nD) (k : ℕ) :
    Recs m K ⊢ iprop(cellInv ER (Rd m) (K (rCell c k)) (rCell c k) ∗ reached ER (rCell c k) 0) := by
  have := Recs_at m K (c, ⟨(k + 3) % 4 + 1, by omega⟩); rwa [cellAt_recv] at this

/-! ## Ownership under the program's windows -/

section Own
variable (c : Dev nD)

theorem p_win {k : ℕ} {off : Fin 3 → ℕ} (ho : off = ![k % 2, 0, 0]) (h : ∀ a, off a + S1x128x4096.size a ≤ S2x128x4096.size a)
    (hs : S1x128x4096.Squeezes S128x4096) (q : PosShare TreeShare) (X : S1x128x4096.Idx → Elt F .f32) :
    (owns (c : Thread nD τ) ((pM.slice (Rect.unit (s := S2x128x4096) off S1x128x4096.size h) (fun _ => rfl)).squeeze S128x4096 hs) q (flat X) : sProp 𝕄)
      = owns (c : Thread nD τ) (pW k) q X := by
  subst ho; exact owns_squeeze (c : Thread nD τ) _ S128x4096 hs q X
theorem r_win {k : ℕ} {off : Fin 3 → ℕ} (ho : off = ![k % 4, 0, 0]) (h : ∀ a, off a + S1x128x4096.size a ≤ S4x128x4096.size a)
    (hs : S1x128x4096.Squeezes S128x4096) (q : PosShare TreeShare) (X : S1x128x4096.Idx → Elt F .f32) :
    (owns (c : Thread nD τ) ((rM.slice (Rect.unit (s := S4x128x4096) off S1x128x4096.size h) (fun _ => rfl)).squeeze S128x4096 hs) q (flat X) : sProp 𝕄)
      = owns (c : Thread nD τ) (rW k) q X := by
  subst ho; exact owns_squeeze (c : Thread nD τ) _ S128x4096 hs q X
theorem a_win {k : ℕ} {off : Fin 3 → ℕ} (ho : off = ![k % 2, 0, 0]) (h : ∀ a, off a + S1x128x2048.size a ≤ S2x128x2048.size a)
    (hs : S1x128x2048.Squeezes S128x2048) (q : PosShare TreeShare) (X : S1x128x2048.Idx → Elt F .f32) :
    (owns (c : Thread nD τ) ((aM.slice (Rect.unit (s := S2x128x2048) off S1x128x2048.size h) (fun _ => rfl)).squeeze S128x2048 hs) q (flatA X) : sProp 𝕄)
      = owns (c : Thread nD τ) (aW k) q X := by
  subst ho; exact owns_squeeze (c : Thread nD τ) _ S128x2048 hs q X

theorem rows_set {a b : ℕ} {size : Fin 2 → ℕ} {h : ∀ x, (![a, 0] : Fin 2 → ℕ) x + size x ≤ S4096x4096.size x} (h0 : a + size 0 = b) (h1 : size 1 = 4096) :
    (Rect.unit (s := S4096x4096) ![a, 0] size h).set = rowsF a b := by
  ext i
  rw [Rect.mem_set_unit]
  unfold rowsF
  rw [Finset.mem_filter]
  constructor
  · intro hi
    have h2 : a ≤ (i 0).val ∧ (i 0).val < a + size 0 := hi 0
    exact ⟨Finset.mem_univ _, h2.1, by omega⟩
  · rintro ⟨-, h2, h3⟩ x
    match x with
    | 0 => exact ⟨h2, by show (i 0).val < a + size 0; omega⟩
    | 1 => exact ⟨Nat.zero_le _, by show (i 1).val < 0 + size 1; have : (i 1).val < 4096 := (i 1).isLt; omega⟩

/-- The result's rows under a window of the program. -/
theorem o_win {a b : ℕ} {off size : Fin 2 → ℕ} (ho : off = ![a, 0]) (h : ∀ x, off x + size x ≤ S4096x4096.size x) (h0 : a + size 0 = b) (h1 : size 1 = 4096)
    (g : S4096x4096.Idx → Elt F .f32) :
    (owns (c : Thread nD τ) (OM.slice (Rect.unit (s := S4096x4096) off size h) (fun _ => rfl)) fullShare (fun j => g ((Rect.unit (s := S4096x4096) off size h).emb j)) : sProp 𝕄)
      = outR c a b g := by
  subst ho
  refine (owns_slice_at (c : Thread nD τ) OM fullShare (Rect.unit (s := S4096x4096) ![a, 0] size h) (fun _ => rfl) g _ rfl).trans ?_
  unfold outR
  have hset : (OM.view.slice (Rect.unit (s := S4096x4096) ![a, 0] size h)).set = rowsF a b :=
    (View.set_slice_whole main_v1 _).trans (rows_set h0 h1)
  rw [hset]

theorem rows_union {a b d : ℕ} (h1 : a ≤ b) (h2 : b ≤ d) : rowsF a d = rowsF a b ∪ rowsF b d := by
  ext i; simp only [rowsF, Finset.mem_union, Finset.mem_filter, Finset.mem_univ, true_and]; omega
theorem rows_disj {a b d : ℕ} : Disjoint (rowsF a b) (rowsF b d) :=
  Finset.disjoint_left.mpr fun i h1 h2 => by
    simp only [rowsF, Finset.mem_filter, Finset.mem_univ, true_and] at h1 h2; omega
theorem outR_split {a b d : ℕ} (h1 : a ≤ b) (h2 : b ≤ d) (g : S4096x4096.Idx → Elt F .f32) :
    (outR c a d g : sProp 𝕄) ⊢ iprop(outR c a b g ∗ outR c b d g) := by
  unfold outR; rw [rows_union h1 h2]; exact (pointsTo_union rows_disj).1
theorem outR_join {a b d : ℕ} (h1 : a ≤ b) (h2 : b ≤ d) (g : S4096x4096.Idx → Elt F .f32) :
    iprop(outR c a b g ∗ outR c b d g) ⊢ (outR c a d g : sProp 𝕄) := by
  unfold outR; rw [rows_union h1 h2]; exact (pointsTo_union rows_disj).2
theorem outR_self (a : ℕ) (g : S4096x4096.Idx → Elt F .f32) : (outR c a a g : sProp 𝕄) = emp := by
  unfold outR
  have : rowsF a a = ∅ := Finset.filter_false_of_mem fun i _ => by omega
  rw [this, pointsTo_empty]
theorem outR_all (g : S4096x4096.Idx → Elt F .f32) : (outR c 0 4096 g : sProp 𝕄) = (((c : Thread nD τ).loc main_v1) ↦{fullShare} g) := by
  unfold outR
  have : rowsF 0 4096 = Finset.univ := Finset.filter_true_of_mem fun i _ => ⟨Nat.zero_le _, (i 0).isLt⟩
  rw [this]

/-! ### The result's rows are what the chunks' sums are -/

set_option backward.isDefEq.respectTransparency false in
theorem out_chunk {k : ℕ} (h1 : 1 ≤ k) (h2 : k ≤ 31) {off : Fin 2 → ℕ} (ho : off = ![64 + 128 * (k - 1), 0]) (h : ∀ x, off x + S128x4096.size x ≤ S4096x4096.size x) :
    (fun j => outV m c ((Rect.unit (s := S4096x4096) off S128x4096.size h).emb j)) = flat (sumC m c k) := by
  subst ho
  funext j
  have e0 : (((Rect.unit (s := S4096x4096) ![64 + 128 * (k - 1), 0] S128x4096.size h).emb j) 0).val = 64 + 128 * (k - 1) + 1 * (j 0).val := rfl
  have hj : (j 0).val < 128 := (j 0).isLt
  unfold outV
  rw [dif_neg (by omega), dif_neg (by omega)]
  have hk : ((((Rect.unit (s := S4096x4096) ![64 + 128 * (k - 1), 0] S128x4096.size h).emb j) 0).val - 64) / 128 + 1 = k := by omega
  rw [hk]
  congr 1
  funext a
  match a with
  | 0 => exact Fin.ext (by show ((((Rect.unit (s := S4096x4096) ![64 + 128 * (k - 1), 0] S128x4096.size h).emb j) 0).val - 64) % 128 = (j 0).val; omega)
  | 1 => exact Fin.ext (by show 0 + 1 * (j 1).val = (j 1).val; omega)

set_option backward.isDefEq.respectTransparency false in
theorem out_edge0 (h : ∀ x, (![0, 0] : Fin 2 → ℕ) x + S64x4096.size x ≤ S4096x4096.size x) :
    (fun j => outV m c ((Rect.unit (s := S4096x4096) ![0, 0] S64x4096.size h).emb j)) = sE0 m c := by
  funext j
  have e0 : (((Rect.unit (s := S4096x4096) ![0, 0] S64x4096.size h).emb j) 0).val = 0 + 1 * (j 0).val := rfl
  have hj : (j 0).val < 64 := (j 0).isLt
  unfold outV
  rw [dif_pos (by omega)]
  congr 1
  funext a
  match a with
  | 0 => exact Fin.ext (by show 0 + 1 * (j 0).val = (j 0).val; omega)
  | 1 => exact Fin.ext (by show 0 + 1 * (j 1).val = (j 1).val; omega)

set_option backward.isDefEq.respectTransparency false in
theorem out_edge1 (h : ∀ x, (![4032, 0] : Fin 2 → ℕ) x + S64x4096.size x ≤ S4096x4096.size x) :
    (fun j => outV m c ((Rect.unit (s := S4096x4096) ![4032, 0] S64x4096.size h).emb j)) = sE1 m c := by
  funext j
  have e0 : (((Rect.unit (s := S4096x4096) ![4032, 0] S64x4096.size h).emb j) 0).val = 4032 + 1 * (j 0).val := rfl
  have hj : (j 0).val < 64 := (j 0).isLt
  unfold outV
  rw [dif_neg (by omega), dif_pos (by omega)]
  congr 1
  funext a
  match a with
  | 0 => exact Fin.ext (by show 4032 + 1 * (j 0).val - 4032 = (j 0).val; omega)
  | 1 => exact Fin.ext (by show 0 + 1 * (j 1).val = (j 1).val; omega)

theorem a_rows {k : ℕ} (h2 : k ≤ 31) {off : Fin 2 → ℕ} (ho : off = ![64 + 128 * (k - 1), 0]) (h : ∀ x, off x + S128x2048.size x ≤ S4096x2048.size x) :
    (fun j => Ac m c ((Rect.unit (s := S4096x2048) off S128x2048.size h).emb j)) = flatA (aBlk m c k) := by
  subst ho
  unfold aBlk
  rw [flatA_liftA]
  unfold aFlat
  funext j
  congr 1
  funext a
  match a with
  | 0 => exact Fin.ext (by show 64 + 128 * (k - 1) + 1 * (j 0).val = row k + 1 * (j 0).val; rw [row_eq h2])
  | 1 => rfl

end Own

/-! ## Operations -/

section Ops
variable {Λ : Labels} {defs : Defs nD τ sig (Elt F) Λ} (𝒱 : Variants) (c : Dev nD) (bd : Option 𝒱.V)
variable {α : Type} {Q : α → sProp (MT nD τ sig ℕ (Elt F) ℕ UU ℕ)}

/-- A conditional that goes on to `J` either way, with `R'` made of `R`. -/
theorem wp_ite {p : Prop} [Decidable p] {A : p → Prog (TpuEff nD τ sig (Elt F) Λ .tc) α} {J : Prog (TpuEff nD τ sig (Elt F) Λ .tc) α} (R R' : sProp 𝕄)
    (hA : ∀ h : p, R ⊢ iprop((R' -∗ wp frame (wpE defs 𝒱 (c : Thread nD τ) bd) Set.univ J Q) -∗ wp frame (wpE defs 𝒱 (c : Thread nD τ) bd) Set.univ (A h) Q))
    (hB : ¬ p → R ⊢ R') :
    R ⊢ iprop((R' -∗ wp frame (wpE defs 𝒱 (c : Thread nD τ) bd) Set.univ J Q)
      -∗ wp frame (wpE defs 𝒱 (c : Thread nD τ) bd) Set.univ (dite p A fun _ => J) Q) := by
  by_cases hp : p
  · rw [dif_pos hp]; exact hA hp
  · rw [dif_neg hp]
    iintro H Hk
    iapply Hk
    iapply (hB hp); iexact H

/-- A wait on a flight's semaphore. -/
theorem st_wait {sem sem₀ : DmaSem sig} (hs : sem = sem₀) {sp sp' : Space} {s s' : Shape} {e e' : EltTy} {srcw : Memref sig .tc sp' s' e'} {dstw : Memref sig .tc sp s e}
    {hsrc : srcw.view.WordExact} {hdst : dstw.view.WordExact} {k : PUnit → Prog (TpuEff nD τ sig (Elt F) Λ .tc) α}
    {N : ℕ} (hN : dstw.view.dmaCredit = N) {D : sProp 𝕄} {O : CellTallies nD τ sig ℕ} {W : Waits sig ℕ} :
    iprop(Flight EC (c : Thread nD τ) (.dma sem₀) 0 N D ∗ owes (c : Thread nD τ) O W ∗ MayWait (c : Thread nD τ) (.dma sem₀) 0 O)
      ⊢ iprop((iprop(D ∗ semVal ((c : Thread nD τ), .dma sem₀) 0 ∗ (∃ W, owes (c : Thread nD τ) O W)) -∗ wp frame (wpE defs 𝒱 (c : Thread nD τ) bd) Set.univ (k ⟨⟩) Q)
          -∗ wp frame (wpE defs 𝒱 (c : Thread nD τ) bd) Set.univ (.op (.waitDma2 sem srcw dstw hsrc hdst) k) Q) := by
  subst hs
  iintro H Hk
  iapply (Transfers.wp_waitLocalO EC 𝒱 (c : Thread nD τ) bd 0 hN) $$ H
  iintro ⟨HD, Hv, HO⟩
  iapply Hk
  isplitl [HD]; · iexact HD
  isplitl [Hv]; · iexact Hv
  iexists (insert (SemLoc.dma sem, 0) W)
  iexact HO

/-- A wait for the peer's chunk `k`. -/
theorem st_recv (K : GSem nD τ sig → ℕ) {j : ℕ} (h1 : 1 ≤ j) (h2 : j < 32) {sem : DmaSem sig} (hs : sem = sR j) {sp sp' : Space} {s s' : Shape} {e e' : EltTy}
    {srcw : Memref sig .tc sp' s' e'} {dstw : Memref sig .tc sp s e}
    {hsrc : srcw.view.WordExact} {hdst : dstw.view.WordExact} {k : PUnit → Prog (TpuEff nD τ sig (Elt F) Λ .tc) α}
    (hN : dstw.view.dmaCredit = NR) {O : CellTallies nD τ sig ℕ} {W : Waits sig ℕ} :
    iprop(Recs m K ∗ cred (tallyAt (rCell c j) j NR) ∗ owes (c : Thread nD τ) O W ∗ MayWait (c : Thread nD τ) (.dma (sR j)) j O ∗ atPos ER (rCell c j) (rnd j) ∅ 0)
      ⊢ iprop((iprop((∃ W, owes (c : Thread nD τ) O W) ∗ atPos ER (rCell c (j + 4)) (rnd (j + 4)) ∅ 0 ∗ reached ER (rCell c (j + 4)) (rnd (j + 4))
            ∗ rS c j (part m (peer c) j) ∗ give (peer c) j) -∗ wp frame (wpE defs 𝒱 (c : Thread nD τ) bd) Set.univ (k ⟨⟩) Q)
          -∗ wp frame (wpE defs 𝒱 (c : Thread nD τ) bd) Set.univ (.op (.waitDma2 sem srcw dstw hsrc hdst) k) Q) := by
  subst hs
  iintro ⟨#HR, Hc, HO, Hm, Hp⟩ Hk
  ihave ⟨#Hg, #Hr0⟩ := (Recs_recv m K c j) $$ HR
  iapply (Rounds.wp_wait_rest_token 𝒱 ER (Rd m) (c : Thread nD τ) bd (κ := K (rCell c j)) (wpE_waitDma2_eq 𝒱 (c : Thread nD τ) bd Set.univ) (Set.mem_univ _) j
      (O := O) (W := W) (R := rnd j) (m := 0) (T := ∅) (by rw [Nat.zero_add, hN]; exact (expect_recv m c h1 h2).symm)) $$ [Hc HO Hm Hp]
  · isplitr; · iexact Hg
    isplitl [Hc]; · rw [hN]; iexact Hc
    isplitl [HO]; · iexact HO
    isplitl [Hm]; · iexact Hm
    iexact Hp
  rw [rest_recv m c h1 h2, rCell_congr c (k := j + 4) (k' := j) (by omega), show rnd (j + 4) = rnd j + 1 from by unfold rnd; omega]
  unfold recvPay
  iintro ⟨HO, Hp, Hr, HS, HG⟩
  iapply Hk
  isplitl [HO]; · iexists (insert (SemLoc.dma (sR j), j) W); iexact HO
  isplitl [Hp]; · iexact Hp
  isplitl [Hr]; · iexact Hr
  isplitl [HS]; · iexact HS
  iexact HG

/-- A wait for the peer's edge chunk. -/
theorem st_recvE (K : GSem nD τ sig → ℕ) (r ι : ℕ) (hr : r < 2) {sem : DmaSem sig} (hs : sem = sER) {sp sp' : Space} {s s' : Shape} {e e' : EltTy}
    {srcw : Memref sig .tc sp' s' e'} {dstw : Memref sig .tc sp s e}
    {hsrc : srcw.view.WordExact} {hdst : dstw.view.WordExact} {k : PUnit → Prog (TpuEff nD τ sig (Elt F) Λ .tc) α}
    (hN : dstw.view.dmaCredit = NE) {O : CellTallies nD τ sig ℕ} {W : Waits sig ℕ} :
    iprop(Recs m K ∗ cred (tallyAt (eCell c) ι NE) ∗ owes (c : Thread nD τ) O W ∗ MayWait (c : Thread nD τ) (.dma sER) ι O ∗ atPos ER (eCell c) r ∅ 0)
      ⊢ iprop((iprop((∃ W, owes (c : Thread nD τ) O W) ∗ atPos ER (eCell c) (r + 1) ∅ 0 ∗ reached ER (eCell c) (r + 1) ∗ edgePay m c r)
            -∗ wp frame (wpE defs 𝒱 (c : Thread nD τ) bd) Set.univ (k ⟨⟩) Q)
          -∗ wp frame (wpE defs 𝒱 (c : Thread nD τ) bd) Set.univ (.op (.waitDma2 sem srcw dstw hsrc hdst) k) Q) := by
  subst hs
  iintro ⟨#HR, Hc, HO, Hm, Hp⟩ Hk
  ihave ⟨#Hg, #Hr0⟩ := (Recs_edge m K c) $$ HR
  iapply (Rounds.wp_wait_rest_token 𝒱 ER (Rd m) (c : Thread nD τ) bd (κ := K (eCell c)) (wpE_waitDma2_eq 𝒱 (c : Thread nD τ) bd Set.univ) (Set.mem_univ _) ι
      (O := O) (W := W) (R := r) (m := 0) (T := ∅) (by rw [Nat.zero_add, hN]; exact (expect_edge m c hr).symm)) $$ [Hc HO Hm Hp]
  · isplitr; · iexact Hg
    isplitl [Hc]; · rw [hN]; iexact Hc
    isplitl [HO]; · iexact HO
    isplitl [Hm]; · iexact Hm
    iexact Hp
  rw [rest_edge m c hr]
  iintro ⟨HO, Hp, Hr, HS⟩
  iapply Hk
  isplitl [HO]; · iexists (insert (SemLoc.dma sER, ι) W); iexact HO
  isplitl [Hp]; · iexact Hp
  isplitl [Hr]; · iexact Hr
  iexact HS

/-- The start of a copy out of a buffer held whole, at any share: the share comes back with the copy. -/
theorem st_copyIn {b : Ref sig .tc} {sp' : Space} {off size : Fin b.ty.shape.rank → ℕ} {h : ∀ a, off a + size a ≤ b.ty.shape.size a}
    {hr : ∀ a, (Rect.unit (s := b.ty.shape) off size h).stride a = 1}
    {dst : Memref sig .tc sp' ⟨b.ty.shape.rank, size⟩ b.ty.elt} {sem sem₀ : DmaSem sig} (hs : sem = sem₀)
    {hsrc : ((Memref.whole b).slice (Rect.unit (s := b.ty.shape) off size h) hr).view.WordExact} {hdst : dst.view.WordExact} {hsem : DmaTarget.Typed (nD := nD) b.space (.dma sem) (.here (p := (Proc.tc : Proc τ)) dst)}
    {k : PUnit → Prog (TpuEff nD τ sig (Elt F) Λ .tc) α} {q : PosShare TreeShare} {g : b.ty.Contents (Elt F)} {Y : Shape.Idx ⟨b.ty.shape.rank, size⟩ → Elt F b.ty.elt}
    (N : ℕ) (hN : dst.view.amount (.dma sem₀) = N) (hN0 : 0 < N) (R R' : sProp 𝕄) (hR : owns (c : Thread nD τ) dst fullShare Y = R)
    (hR' : owns (c : Thread nD τ) dst fullShare (fun j => g ((Rect.unit (s := b.ty.shape) off size h).emb j)) = R') :
    iprop((((c : Thread nD τ).loc b) ↦{q} g) ∗ R ∗ semVal ((c : Thread nD τ), .dma sem₀) 0)
      ⊢ iprop((Flight EC (c : Thread nD τ) (.dma sem₀) 0 N iprop(R' ∗ (((c : Thread nD τ).loc b) ↦{q} g)) -∗ wp frame (wpE defs 𝒱 (c : Thread nD τ) bd) Set.univ (k ⟨⟩) Q)
          -∗ wp frame (wpE defs 𝒱 (c : Thread nD τ) bd) Set.univ
            (.op (.enqueueDma ((Memref.whole b).slice (Rect.unit (s := b.ty.shape) off size h) hr) (.here dst) (.dma sem) hsrc hdst hsem) k) Q) := by
  subst hs hR hR'
  iintro ⟨HA, Hd, Hv⟩ Hk
  have hset : ((Memref.whole b).view.slice (Rect.unit (s := b.ty.shape) off size h)).set ⊆ (Finset.univ : Finset b.ty.shape.Idx) := Finset.subset_univ _
  ihave ⟨HA, HA'⟩ := (pointsTo_split_subset (ℓ := (c : Thread nD τ).loc b) (q := q) (f := g) hset).1 $$ HA
  have e := owns_slice_at (Ix := ℕ) (Name := ℕ) (U := UU) (Lvl := ℕ) (c : Thread nD τ) (Memref.whole b) q (Rect.unit (s := b.ty.shape) off size h) hr g _ rfl
  iapply (wp_copy 𝒱 (c : Thread nD τ) bd EC 0 N hN hN0) $$ [HA Hd Hv]
  · isplitl [HA]
    · iapply (Entails.of_eq e.symm); iexact HA
    isplitl [Hd] <;> iassumption
  iintro HF
  iapply Hk
  ihave HF := (Flight_frame (c : Thread nD τ) EC) $$ [HF HA']
  · isplitl [HF]; · iexact HF
    iexact HA'
  iapply (Transfers.Flight_mono (c : Thread nD τ) (EC := EC) _) $$ HF
  iintro ⟨⟨Hd, Hs⟩, HA'⟩
  isplitl [Hd]; · iexact Hd
  iapply (pointsTo_split_subset (ℓ := (c : Thread nD τ).loc b) (q := q) (f := g) hset).2
  isplitl [Hs]
  · iapply (Entails.of_eq e); iexact Hs
  · iexact HA'

/-- The start of a copy from one owned memref to another, both under names of one's own. -/
theorem st_copy {sp sp' : Space} {s : Shape} {e : EltTy} {src : Memref sig .tc sp s e} {dst : Memref sig .tc sp' s e} {sem sem₀ : DmaSem sig} (hs : sem = sem₀)
    {hsrc : src.view.WordExact} {hdst : dst.view.WordExact} {hsem : DmaTarget.Typed (nD := nD) sp (.dma sem) (.here (p := (Proc.tc : Proc τ)) dst)}
    {k : PUnit → Prog (TpuEff nD τ sig (Elt F) Λ .tc) α} {X Y : s.Idx → Elt F e}
    (N : ℕ) (hN : dst.view.amount (.dma sem₀) = N) (hN0 : 0 < N) (S R R' : sProp 𝕄) (hS : owns (c : Thread nD τ) src fullShare X = S)
    (hR : owns (c : Thread nD τ) dst fullShare Y = R) (hR' : owns (c : Thread nD τ) dst fullShare X = R') :
    iprop(S ∗ R ∗ semVal ((c : Thread nD τ), .dma sem₀) 0)
      ⊢ iprop((Flight EC (c : Thread nD τ) (.dma sem₀) 0 N iprop(R' ∗ S) -∗ wp frame (wpE defs 𝒱 (c : Thread nD τ) bd) Set.univ (k ⟨⟩) Q)
          -∗ wp frame (wpE defs 𝒱 (c : Thread nD τ) bd) Set.univ (.op (.enqueueDma src (.here dst) (.dma sem) hsrc hdst hsem) k) Q) := by
  subst hs hS hR hR'
  exact wp_copy 𝒱 (c : Thread nD τ) bd EC 0 N hN hN0

/-- The send of chunk `j`. -/
theorem st_send (K : GSem nD τ sig → ℕ) {j : ℕ} (h1 : 1 ≤ j) (h2 : j < 32) {offp offr : Fin 3 → ℕ} (hop : offp = ![j % 2, 0, 0]) (hor : offr = ![j % 4, 0, 0])
    {hp : ∀ a, offp a + S1x128x4096.size a ≤ S2x128x4096.size a} {hr : ∀ a, offr a + S1x128x4096.size a ≤ S4x128x4096.size a}
    {hs : S1x128x4096.Squeezes S128x4096} {c' : Dev nD} (hc : c' = peer c) {sS' sR' : DmaSem sig} (hsS : sS' = sS j) (hsR : sR' = sR j)
    {hsc : ((rM.slice (Rect.unit (s := S4x128x4096) offr S1x128x4096.size hr) (fun _ => rfl)).squeeze S128x4096 hs).view.ref.isScScratch = false}
    {hsrc : ((pM.slice (Rect.unit (s := S2x128x4096) offp S1x128x4096.size hp) (fun _ => rfl)).squeeze S128x4096 hs).view.WordExact}
    {hdst : ((rM.slice (Rect.unit (s := S4x128x4096) offr S1x128x4096.size hr) (fun _ => rfl)).squeeze S128x4096 hs).view.WordExact}
    {hsem : DmaTarget.Typed .vmem (.dma sR') (.remote (Dev.tc c') ((rM.slice (Rect.unit (s := S4x128x4096) offr S1x128x4096.size hr) (fun _ => rfl)).squeeze S128x4096 hs) (.dma sS') hsc)}
    {k : PUnit → Prog (TpuEff nD τ sig (Elt F) Λ .tc) α} {W : Waits sig ℕ} :
    iprop(Recs m K ∗ pS c j (part m c j) ∗ (∃ X, rS (peer c) j X) ∗ semVal ((c : Thread nD τ), .dma (sS j)) 0 ∗ owes (c : Thread nD τ) (Ow c (j - 1)) W
        ∗ dutyTok ER (rCell (peer c) j) (rnd j) () ∗ reached ER (rCell (peer c) j) (rnd j) ∗ give c j)
      ⊢ iprop((iprop(Flight EC (c : Thread nD τ) (.dma (sS j)) 0 NR (pS c j (part m c j)) ∗ owes (c : Thread nD τ) (Ow c j) W)
            -∗ wp frame (wpE defs 𝒱 (c : Thread nD τ) bd) Set.univ (k ⟨⟩) Q)
          -∗ wp frame (wpE defs 𝒱 (c : Thread nD τ) bd) Set.univ
            (.op (.enqueueDma ((pM.slice (Rect.unit (s := S2x128x4096) offp S1x128x4096.size hp) (fun _ => rfl)).squeeze S128x4096 hs)
              (.remote (Dev.tc c') ((rM.slice (Rect.unit (s := S4x128x4096) offr S1x128x4096.size hr) (fun _ => rfl)).squeeze S128x4096 hs) (.dma sS') hsc)
              (.dma sR') hsrc hdst hsem) k) Q) := by
  subst hc hsS hsR
  iintro ⟨#HR, HS, ⟨%X, Hd⟩, Hv, HO, Ht, Hre, HG⟩ Hk
  ihave ⟨#Hg, #Hr0⟩ := (Recs_recv m K (peer c) j) $$ HR
  iapply (wp_send 𝒱 (c : Thread nD τ) bd EC ER (Rd m) (κ := K (rCell (peer c) j)) (c' := (peer c : Thread nD τ)) (X := flat (part m c j)) (Y := flat X) (Fr := give c j)
      (r := rnd j) (d := ()) j 0 (O₀ := Ow c (j - 1)) (Ow c j) NR rfl NR_pos
      (by have := Ow_succ c (k := j - 1) (by omega); rwa [show j - 1 + 1 = j from by omega] at this)
      (by rw [duties_recv m (peer c) h1 h2]; exact Finset.mem_singleton_self _)
      (amount_recv m (peer c) j (rnd j) ())
      (by rw [payload_recv m (peer c) h1, r_win (peer c) hor]; unfold recvPay; rw [peer_peer])
      (by routes)) $$ [HS Hd Hv HO Ht Hre HG]
  · rw [p_win c hop, r_win (peer c) hor]
    isplitl [HS]; · iexact HS
    isplitl [Hd]; · iexact Hd
    isplitl [Hv]; · iexact Hv
    isplitl [HO]; · iexact HO
    isplitr; · iexact Hg
    isplitl [Ht]; · iexact Ht
    isplitl [Hre]; · iexact Hre
    iexact HG
  rw [p_win c hop]
  iexact Hk

/-- The send of an edge chunk. -/
theorem st_sendE (K : GSem nD τ sig → ℕ) (r ι : ℕ) (hr : r < 2) (O : CellTallies nD τ sig ℕ) {O₀ : CellTallies nD τ sig ℕ} (hO : O₀ = O + tallyAt (eCell (peer c)) ι NE)
    {X : S64x4096.Idx → Elt F .f32} (hX : iprop(reS (peer c) X) ⊢ edgePay m (peer c) r)
    {c' : Dev nD} (hc : c' = peer c) {sS' sR' : DmaSem sig} (hsS : sS' = sES) (hsR : sR' = sER)
    {hsc : reM.view.ref.isScScratch = false} {hsrc : peM.view.WordExact} {hdst : reM.view.WordExact}
    {hsem : DmaTarget.Typed .vmem (.dma sR') (.remote (Dev.tc c') reM (.dma sS') hsc)}
    {k : PUnit → Prog (TpuEff nD τ sig (Elt F) Λ .tc) α} {W : Waits sig ℕ} :
    iprop(Recs m K ∗ peS c X ∗ (∃ Y, reS (peer c) Y) ∗ semVal ((c : Thread nD τ), .dma sES) 0 ∗ owes (c : Thread nD τ) O₀ W
        ∗ dutyTok ER (eCell (peer c)) r () ∗ reached ER (eCell (peer c)) r)
      ⊢ iprop((iprop(Flight EC (c : Thread nD τ) (.dma sES) 0 NE (peS c X) ∗ owes (c : Thread nD τ) O W)
            -∗ wp frame (wpE defs 𝒱 (c : Thread nD τ) bd) Set.univ (k ⟨⟩) Q)
          -∗ wp frame (wpE defs 𝒱 (c : Thread nD τ) bd) Set.univ (.op (.enqueueDma peM (.remote (Dev.tc c') reM (.dma sS') hsc) (.dma sR') hsrc hdst hsem) k) Q) := by
  subst hc hsS hsR
  iintro ⟨#HR, HS, ⟨%Y, Hd⟩, Hv, HO, Ht, Hre⟩ Hk
  ihave ⟨#Hg, #Hr0⟩ := (Recs_edge m K (peer c)) $$ HR
  iapply (wp_send 𝒱 (c : Thread nD τ) bd EC ER (Rd m) (κ := K (eCell (peer c))) (c' := (peer c : Thread nD τ)) (X := X) (Y := Y) (Fr := iprop(emp))
      (r := r) (d := ()) ι 0 O NE rfl NE_pos hO
      (by rw [duties_edge m (peer c) hr]; exact Finset.mem_singleton_self _)
      (amount_edge m (peer c) r ())
      (by rw [payload_edge m (peer c)]; iintro ⟨H, -⟩; iapply hX; iexact H)
      (by routes)) $$ [HS Hd Hv HO Ht Hre]
  · isplitl [HS]; · iexact HS
    isplitl [Hd]; · iexact Hd
    isplitl [Hv]; · iexact Hv
    isplitl [HO]; · iexact HO
    isplitr; · iexact Hg
    isplitl [Ht]; · iexact Ht
    isplitl [Hre]; · iexact Hre
    iempintro
  iexact Hk

end Ops

end Cert.Proof.MM
-- ==== Proof.State.lean ====
/-
  What a device holds before each trip of its loop, in pieces, and how the pieces go from one trip to the next.
-/
module

public import proofs.«01_k».proof.Proof.Steps

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## The trips in closed form -/

theorem trips_eq : k0_t1_loop.trips = 31 := by decide +kernel
theorem cond1_iff : ∀ t : Fin k0_t1_loop.trips, k0_cond1 t = 1#1 ↔ 2 ≤ t.val := by decide +kernel
theorem cond2_iff : ∀ t : Fin k0_t1_loop.trips, k0_cond2 t = 1#1 ↔ t.val < 30 := by decide +kernel
theorem cond5_iff : ∀ t : Fin k0_t1_loop.trips, k0_cond5 t = 1#1 ↔ 1 ≤ t.val := by decide +kernel
theorem cond3_iff : ∀ t : Fin k0_t1_loop.trips,
    Scalar.cmpi .ne (Scalar.extui (Scalar.cmpi .eq (Scf.iv 1#32 1#32 t) 31#32) : BitVec 32) 0#32 = 1#1 ↔ t.val = 30 := by decide +kernel
theorem cond4_iff : ∀ t : Fin k0_t1_loop.trips,
    Scalar.cmpi .ne (Scalar.extui (Scalar.cmpi .eq (Scf.iv 1#32 1#32 t) 1#32) : BitVec 32) 0#32 = 1#1 ↔ t.val = 0 := by decide +kernel
theorem off6_eq : ∀ t : Fin k0_t1_loop.trips, 2 ≤ t.val → k0_off6 t = ![(t.val + 1) % 2] := by decide +kernel
theorem off16_eq : ∀ t : Fin k0_t1_loop.trips, t.val < 30 → k0_off16 t = ![64 + 128 * (t.val + 2 - 1), 0] := by decide +kernel
theorem off23_eq : ∀ t : Fin k0_t1_loop.trips, 1 ≤ t.val → k0_off23 t = ![64 + 128 * (t.val - 1), 0] := by decide +kernel

/-! ## Families over an interval of chunks -/

theorem Ico_bot {a b : ℕ} (h : a < b) (Φ : ℕ → sProp 𝕄) : bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, BI.bigSep_insert (by simp only [Finset.mem_Ico]; omega)]; rfl
theorem Ico_top {a b : ℕ} (h : a ≤ b) (Φ : ℕ → sProp 𝕄) : bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, BI.bigSep_insert (by simp only [Finset.mem_Ico]; omega)]; rfl
theorem Ico_nil {a b : ℕ} (h : b ≤ a) (Φ : ℕ → sProp 𝕄) : bigSep (Finset.Ico a b) Φ = iprop(emp) := by
  rw [Finset.Ico_eq_empty_of_le h]; rfl

/-! ## Waits on one's own copies -/

theorem lv_local (s : DmaSem sig) (h : (s : Fin 15).val < 9 ∨ (s : Fin 15).val = 13) : lv ((c : Thread nD τ), .dma s) 0 = 0 := by
  have h1 : s ≠ sER := fun e => by subst e; revert h; decide
  have h2 : ∀ k, s ≠ sR k := fun k e => by
    subst e; simp only [sR_val] at h; omega
  unfold lv
  rw [if_neg (fun e => by cases e), if_neg (fun e => h1 (by injection e))]
  have : slotNo (.dma s) = none := by
    unfold slotNo
    rw [if_neg (fun e => h2 0 (by injection e)), if_neg (fun e => h2 1 (by injection e)), if_neg (fun e => h2 2 (by injection e)),
      if_neg (fun e => h2 3 (by injection e))]
  show (if (slotNo (SemLoc.dma s)).isSome = true then 2 + 0 else 0) = 0
  rw [this]; rfl

theorem mw_local (s : DmaSem sig) (h : (s : Fin 15).val < 9 ∨ (s : Fin 15).val = 13) {k : ℕ} (hk : k ≤ 31) :
    (levAts L lv : sProp 𝕄) ⊢ MayWait (c : Thread nD τ) (.dma s) 0 (Ow c k) :=
  mayWait_of c (.dma s) 0 (Ow c k) 1 (by omega) (fun g u hg => by obtain ⟨a, b, d⟩ := Ow_above hk g u hg; exact ⟨a, b, by omega⟩)
    (by rw [lv_local c s h]; omega)
theorem mw_local1 (s : DmaSem sig) (h : (s : Fin 15).val < 9 ∨ (s : Fin 15).val = 13) :
    (levAts L lv : sProp 𝕄) ⊢ MayWait (c : Thread nD τ) (.dma s) 0 (Ow1 c) :=
  mayWait_of c (.dma s) 0 (Ow1 c) 1 (by omega) (fun g u hg => Ow1_above g u hg)
    (by rw [lv_local c s h]; omega)
theorem mw_recv {j k : ℕ} (hj : j ≤ k) (hk : k ≤ 31) :
    (levAts L lv : sProp 𝕄) ⊢ MayWait (c : Thread nD τ) (.dma (sR j)) j (Ow c k) :=
  mayWait_of c (.dma (sR j)) j (Ow c k) (2 + k) (by omega) (fun g u hg => Ow_above hk g u hg)
    (by have := lv_recv c j j; rw [this]; omega)
theorem mw_edge {k : ℕ} (hk : k ≤ 31) :
    (levAts L lv : sProp 𝕄) ⊢ MayWait (c : Thread nD τ) (.dma sER) 0 (Ow c k) :=
  mayWait_of c (.dma sER) 0 (Ow c k) 2 (by omega) (fun g u hg => by obtain ⟨a, b, d⟩ := Ow_above hk g u hg; exact ⟨a, b, by omega⟩)
    (by have := lv_edge c 0; rw [this])
theorem mw_bar : (levAts L lv : sProp 𝕄) ⊢ MayWait (c : Thread nD τ) (.reg barS) 0 (Ow1 c) :=
  mayWait_of c (.reg barS) 0 (Ow1 c) 1 (by omega) (fun g u hg => Ow1_above g u hg)
    (by have := lv_bar c 0; rw [this])

theorem sA_loc (k : ℕ) : (sA k : Fin 15).val < 9 ∨ (sA k : Fin 15).val = 13 := .inl (by show 1 + k % 2 < 9; omega)
theorem sO_loc (k : ℕ) : (sO k : Fin 15).val < 9 ∨ (sO k : Fin 15).val = 13 := .inl (by show 4 + k % 2 < 9; omega)
theorem sS_loc (k : ℕ) : (sS k : Fin 15).val < 9 ∨ (sS k : Fin 15).val = 13 := .inl (by show 7 + k % 2 < 9; omega)

/-! ## The pieces -/

/-- Half of the block of `A`, to copy chunks from. -/
abbrev AL : sProp 𝕄 := ((c : Thread nD τ).loc main_arg0) ↦{fullShare.left} (Ac m c)
/-- A counter of the device's own, at zero. -/
abbrev sv (s : DmaSem sig) : sProp 𝕄 := semVal ((c : Thread nD τ), .dma s) 0

theorem sv_congr {s s' : DmaSem sig} (h : s = s') : (sv c s : sProp 𝕄) = sv c s' := by rw [h]
theorem pS_congr {k k' : ℕ} (h : k % 2 = k' % 2) (X : S1x128x4096.Idx → Elt F .f32) : (pS c k X : sProp 𝕄) = pS c k' X := by
  unfold pS; rw [pW_congr h]
theorem aS_congr {k k' : ℕ} (h : k % 2 = k' % 2) (X : S1x128x2048.Idx → Elt F .f32) : (aS c k X : sProp 𝕄) = aS c k' X := by
  unfold aS; rw [aW_congr h]
theorem rS_congr {k k' : ℕ} (h : k % 4 = k' % 4) (X : S1x128x4096.Idx → Elt F .f32) : (rS c k X : sProp 𝕄) = rS c k' X := by
  unfold rS; rw [rW_congr h]

/-- The chunk of `A` on its way before trip `t`; before the end, the last rows. -/
def ALd (t : ℕ) : sProp 𝕄 :=
  if t < 31 then iprop(Flight EC (c : Thread nD τ) (.dma (sA (t + 1))) 0 NA iprop(aS c (t + 1) (aBlk m c (t + 1)) ∗ AL m c)
      ∗ (∃ X, aS c t X) ∗ sv c (sA t) ∗ (∃ X, aeS c X) ∗ sv c sAE)
  else iprop(Flight EC (c : Thread nD τ) (.dma sAE) 0 NAE iprop(aeS c (aE1 m c) ∗ AL m c)
      ∗ (∃ X, aS c t X) ∗ sv c (sA t) ∗ (∃ X, aS c (t + 1) X) ∗ sv c (sA (t + 1)))

/-- All of that at rest, and where it stands between the two starts of a trip. -/
abbrev ARest (t : ℕ) : sProp 𝕄 :=
  iprop(AL m c ∗ (∃ X, aS c (t + 1) X) ∗ sv c (sA (t + 1)) ∗ (∃ X, aS c t X) ∗ sv c (sA t) ∗ (∃ X, aeS c X) ∗ sv c sAE)
def AMid (t : ℕ) : sProp 𝕄 := if t < 30 then ALd m c (t + 1) else ARest m c t

/-- The slot that trip `t` computes into: written back from in the trip before, from trip 2 on. -/
def OFl (t : ℕ) : sProp 𝕄 :=
  if t < 2 then iprop((∃ X, pS c (t + 1) X) ∗ sv c (sO (t + 1)))
  else Flight EC (c : Thread nD τ) (.dma (sO (t + 1))) 0 NO iprop(outR c (64 + 128 * (t - 2)) (64 + 128 * (t - 1)) (outV m c) ∗ pS c (t - 1) (sumC m c (t - 1)))
abbrev OFree (t : ℕ) : sProp 𝕄 :=
  iprop((∃ X, pS c (t + 1) X) ∗ sv c (sO (t + 1)) ∗ outR c 64 (64 + 128 * (t - 1)) (outV m c))

/-- The slot whose chunk trip `t - 1` sent. -/
def SFl (t : ℕ) : sProp 𝕄 :=
  if t = 0 then iprop((∃ X, pS c 0 X) ∗ sv c (sS 0))
  else Flight EC (c : Thread nD τ) (.dma (sS t)) 0 NR (pS c t (part m c t))

/-- What there is to receive after `n` chunks. -/
def RSt (n : ℕ) : sProp 𝕄 :=
  iprop(bigSep (Finset.Ico (n + 1) 32) (fun k => cred (tallyAt (rCell c k) k NR))
    ∗ atPos ER (rCell c (n + 1)) (rnd (n + 1)) ∅ 0 ∗ atPos ER (rCell c (n + 2)) (rnd (n + 2)) ∅ 0
    ∗ atPos ER (rCell c (n + 3)) (rnd (n + 3)) ∅ 0 ∗ atPos ER (rCell c (n + 4)) (rnd (n + 4)) ∅ 0
    ∗ bigSep (Finset.Ico 28 (n + 1)) (fun k => iprop(∃ X, rS c k X)))

/-- A slot at the peer that the device may send a chunk into. -/
abbrev slot (k : ℕ) : sProp 𝕄 := iprop((∃ X, rS (peer c) k X) ∗ reached ER (rCell (peer c) k) (rnd k))
def Slots (t : ℕ) : sProp 𝕄 := bigSep (Finset.Ico (t + 1) (min 32 (max 5 (t + 2)))) (slot c)
def SlotsM (t : ℕ) : sProp 𝕄 := bigSep (Finset.Ico (t + 2) (min 32 (max 5 (t + 2)))) (slot c)
def Toks (t : ℕ) : sProp 𝕄 := bigSep (Finset.Ico (t + 1) 32) (fun k => dutyTok ER (rCell (peer c) k) (rnd k) ())

/-- The peer's edge buffer, handed back. -/
def PE (t : ℕ) : sProp 𝕄 := if 3 ≤ t then iprop((∃ X, reS (peer c) X) ∗ reached ER (eCell (peer c)) 1) else iprop(emp)

/-- The first edge chunk: sent before the loop, summed in trip 0 and written back from then on. -/
def Ed (t : ℕ) : sProp 𝕄 :=
  if t = 0 then iprop(Flight EC (c : Thread nD τ) (.dma sES) 0 NE (peS c (pE0 m c)) ∗ cred (tallyAt (eCell c) 0 NE) ∗ atPos ER (eCell c) 0 ∅ 0
      ∗ sv c sOE ∗ (∃ f, outR c 0 64 f))
  else iprop(sv c sES ∗ atPos ER (eCell c) 1 ∅ 0 ∗ Flight EC (c : Thread nD τ) (.dma sOE) 0 NOE iprop(outR c 0 64 (outV m c) ∗ peS c (sE0 m c)))

/-- The edge buffer the device hands on after trip 0. -/
def EGive (t : ℕ) : sProp 𝕄 := if t = 0 then give c 2 else iprop(emp)

/-- Before trip `t`. -/
def Inv (K : GSem nD τ sig → ℕ) (t : ℕ) : sProp 𝕄 :=
  iprop(Recs m K ∗ levAts L lv ∗ owns (c : Thread nD τ) bM fullShare (Bc m c) ∗ ALd m c t ∗ OFl m c t ∗ SFl m c t ∗ sv c (sS (t + 1)) ∗ sv c (sO t)
    ∗ outR c 64 (64 + 128 * (t - 2)) (outV m c) ∗ (∃ f, outR c (64 + 128 * (t - 1)) 4096 f)
    ∗ RSt c (t - 1) ∗ give c (t + 1) ∗ Slots c t ∗ Toks c t ∗ PE c t ∗ Ed m c t ∗ (∃ W, owes (c : Thread nD τ) (Ow c t) W))

/-! ## From trip to trip -/

theorem RSt_take {n : ℕ} (h : n < 31) :
    RSt (F := F) c n ⊢ iprop(cred (tallyAt (rCell c (n + 1)) (n + 1) NR) ∗ atPos ER (rCell c (n + 1)) (rnd (n + 1)) ∅ 0
      ∗ (iprop(atPos ER (rCell c (n + 1 + 4)) (rnd (n + 1 + 4)) ∅ 0 ∗ (if 28 ≤ n + 1 then iprop(∃ X, rS c (n + 1) X) else iprop(emp))) -∗ RSt c (n + 1))) := by
  unfold RSt
  rw [Ico_bot (a := n + 1) (b := 32) (by omega)]
  have hK : iprop((if 28 ≤ n + 1 then iprop(∃ X, rS (F := F) c (n + 1) X) else iprop(emp)) ∗ bigSep (Finset.Ico 28 (n + 1)) (fun k => iprop(∃ X, rS c k X)))
      ⊢ bigSep (Finset.Ico 28 (n + 1 + 1)) (fun k => iprop(∃ X, rS (F := F) c k X)) := by
    by_cases hn : 28 ≤ n + 1
    · rw [if_pos hn, Ico_top (a := 28) (b := n + 1) hn]
    · rw [if_neg hn, Ico_nil (a := 28) (b := n + 1 + 1) (by omega), Ico_nil (a := 28) (b := n + 1) (by omega)]
      iintro ⟨-, H⟩; iexact H
  iintro ⟨⟨Hc, HC⟩, H1, H2, H3, H4, HK⟩
  isplitl [Hc]; · iexact Hc
  isplitl [H1]; · iexact H1
  iintro ⟨H5, HX⟩
  isplitl [HC]; · iexact HC
  isplitl [H2]; · iexact H2
  isplitl [H3]; · iexact H3
  isplitl [H4]; · iexact H4
  isplitl [H5]; · iexact H5
  iapply hK
  isplitl [HX] <;> iassumption

theorem Slots_take {t : ℕ} (h : t < 31) : Slots (F := F) c t ⊢ iprop(slot c (t + 1) ∗ SlotsM c t) := by
  unfold Slots SlotsM
  rw [Ico_bot (a := t + 1) (by omega)]

theorem Toks_take {t : ℕ} (h : t < 31) : Toks (F := F) c t ⊢ iprop(dutyTok ER (rCell (peer c) (t + 1)) (rnd (t + 1)) () ∗ Toks c (t + 1)) := by
  unfold Toks
  rw [Ico_bot (a := t + 1) (by omega)]

/-- What comes with the peer's chunk goes where it belongs. -/
theorem give_use {t : ℕ} (h : t ≤ 31) : iprop(give (peer c) t ∗ PE (F := F) c t ∗ SlotsM c t) ⊢ iprop(PE c (t + 1) ∗ Slots c (t + 1)) := by
  unfold give PE SlotsM Slots
  by_cases h2 : t = 2
  · subst h2
    rw [if_pos rfl, if_neg (by omega), if_pos (by omega)]
    iintro ⟨HG, -, HS⟩
    isplitl [HG]; · iexact HG
    iexact HS
  · rw [if_neg h2]
    by_cases h3 : 3 ≤ t ∧ t ≤ 29
    · rw [if_pos h3, if_pos (by omega), if_pos (by omega), show min 32 (max 5 (t + 2)) = t + 2 from by omega,
        show min 32 (max 5 (t + 1 + 2)) = t + 2 + 1 from by omega, Ico_top (a := t + 1 + 1) (b := t + 2) (by omega)]
      unfold slot
      iintro ⟨HG, HP, HS⟩
      isplitl [HP]; · iexact HP
      isplitl [HG]; · iexact HG
      iexact HS
    · rw [if_neg h3]
      by_cases h4 : t < 3
      · rw [if_neg (by omega), if_neg (by omega), show min 32 (max 5 (t + 2)) = 5 from by omega, show min 32 (max 5 (t + 1 + 2)) = 5 from by omega]
        iintro ⟨-, HP, HS⟩
        isplitl [HP]; · iexact HP
        iexact HS
      · rw [if_pos (by omega), if_pos (by omega), show min 32 (max 5 (t + 2)) = 32 from by omega, show min 32 (max 5 (t + 1 + 2)) = 32 from by omega]
        iintro ⟨-, HP, HS⟩
        isplitl [HP]; · iexact HP
        iexact HS

/-- A slot read is handed on with the chunk after next, or kept at the end. -/
theorem own_give {t : ℕ} (h1 : 1 ≤ t) (h : t ≤ 31) (X : S1x128x4096.Idx → Elt F .f32) :
    iprop(rS c t X ∗ reached ER (rCell c (t + 4)) (rnd (t + 4))) ⊢ iprop(give c (t + 2) ∗ (if 28 ≤ t then iprop(∃ X, rS (F := F) c t X) else iprop(emp))) := by
  unfold give
  rw [if_neg (by omega)]
  by_cases h3 : 28 ≤ t
  · rw [if_neg (by omega), if_pos h3]
    iintro ⟨H, -⟩
    isplitr; · iempintro
    iexists X; iexact H
  · rw [if_pos (by omega), if_neg h3]
    iintro ⟨H, Hr⟩
    isplitl
    · isplitl [H]
      · iexists X
        rw [rS_congr c (k := t + 2 + 2) (k' := t) (by omega)]
        iexact H
      · iexact Hr
    · iempintro

theorem give_one : give (F := F) c 1 = iprop(emp) := by unfold give; rw [if_neg (by omega), if_neg (by omega)]
theorem give_zero : give (F := F) c 0 = iprop(emp) := by unfold give; rw [if_neg (by omega), if_neg (by omega)]

end Cert.Proof.MM
-- ==== Proof.Bufs.lean ====
/-
  A scratch buffer of slots taken apart into its slots and put together again.
-/
module

public import proofs.«01_k».proof.Proof.State

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## Slots of a buffer -/

section Glue
variable {b : Ref sig .tc} {T : Type} [Fintype T] [DecidableEq T] (r : T → Rect b.ty.shape) (hr : ∀ t a, (r t).stride a = 1)
  (hd : ∀ t t', t ≠ t' → Disjoint (r t).set (r t').set)
  (hcov : (Finset.univ : Finset T).biUnion (fun t => (r t).set) = Finset.univ)
include hd hcov

/-- Contents given on each of the slots are the contents of one buffer. -/
theorem glue_slots (Y : (t : T) → (r t).shape.Idx → Elt F b.ty.elt) :
    ∃ X : b.ty.shape.Idx → Elt F b.ty.elt, ∀ t, (fun j => X ((r t).emb j)) = Y t :=
  ⟨Rect.glue r hcov Y, fun t => funext fun j => Rect.glue_emb r hcov hd Y t j⟩

theorem slots_split : iprop(∃ f, ((c : Thread nD τ).loc b) ↦{fullShare} f)
    ⊢ (bigSep Finset.univ fun t => iprop(∃ X, owns (c : Thread nD τ) ((Memref.whole b).slice (r t) (hr t)) fullShare X) : sProp 𝕄) := by
  iintro ⟨%f, H⟩
  ihave H := (Entails.of_eq (owns_whole (c : Thread nD τ) b fullShare f).symm) $$ H
  ihave H := (owns_rects (c : Thread nD τ) (Memref.whole b) fullShare r hr hd hcov f) $$ H
  have hm : (bigSep Finset.univ fun t => owns (c : Thread nD τ) ((Memref.whole b).slice (r t) (hr t)) fullShare (fun j => f ((r t).emb j)) : sProp 𝕄)
      ⊢ bigSep Finset.univ fun t => iprop(∃ X, owns (c : Thread nD τ) ((Memref.whole b).slice (r t) (hr t)) fullShare X) :=
    BI.bigSep_mono fun t _ => exists_intro (Φ := fun X => owns (c : Thread nD τ) ((Memref.whole b).slice (r t) (hr t)) fullShare X) (fun j => f ((r t).emb j))
  iapply hm
  iexact H

theorem slots_join : (bigSep Finset.univ fun t => iprop(∃ X, owns (c : Thread nD τ) ((Memref.whole b).slice (r t) (hr t)) fullShare X) : sProp 𝕄)
    ⊢ iprop(∃ f, ((c : Thread nD τ).loc b) ↦{fullShare} f) := by
  refine (BI.bigSep_exists_pi (Y := fun t => (r t).shape.Idx → Elt F b.ty.elt) Finset.univ (fun t X => owns (c : Thread nD τ) ((Memref.whole b).slice (r t) (hr t)) fullShare X)).trans ?_
  iintro ⟨%Y, H⟩
  obtain ⟨X, hX⟩ := glue_slots r hd hcov Y
  iexists X
  iapply (Entails.of_eq (owns_whole (c : Thread nD τ) b fullShare X))
  iapply (owns_of_rects (c : Thread nD τ) (Memref.whole b) fullShare r hr hd hcov X)
  rw [BI.bigSep_congr (fun t _ => congrArg (fun Z => owns (c : Thread nD τ) ((Memref.whole b).slice (r t) (hr t)) fullShare Z) (hX t))]
  iexact H

end Glue

abbrev aR (t : Fin 2) : Rect S2x128x2048 := Rect.unit (s := S2x128x2048) ![t.val % 2, 0, 0] S1x128x2048.size (inb_a t.val)
abbrev pR (t : Fin 2) : Rect S2x128x4096 := Rect.unit (s := S2x128x4096) ![t.val % 2, 0, 0] S1x128x4096.size (inb_p t.val)
abbrev rR (t : Fin 4) : Rect S4x128x4096 := Rect.unit (s := S4x128x4096) ![t.val % 4, 0, 0] S1x128x4096.size (inb_r t.val)

theorem aR_mem (t : Fin 2) (i : S2x128x2048.Idx) : i ∈ (aR t).set ↔ (i 0).val = t.val := by
  have ht := t.isLt
  rw [Rect.mem_set_unit]
  constructor
  · intro h; have h0 : t.val % 2 ≤ (i 0).val ∧ (i 0).val < t.val % 2 + 1 := h 0; omega
  · intro h a
    match a with
    | 0 => show t.val % 2 ≤ (i 0).val ∧ (i 0).val < t.val % 2 + 1; omega
    | 1 => exact ⟨Nat.zero_le _, by have : (i 1).val < 128 := (i 1).isLt; show (i 1).val < 0 + 128; omega⟩
    | 2 => exact ⟨Nat.zero_le _, by have : (i 2).val < 2048 := (i 2).isLt; show (i 2).val < 0 + 2048; omega⟩
theorem pR_mem (t : Fin 2) (i : S2x128x4096.Idx) : i ∈ (pR t).set ↔ (i 0).val = t.val := by
  have ht := t.isLt
  rw [Rect.mem_set_unit]
  constructor
  · intro h; have h0 : t.val % 2 ≤ (i 0).val ∧ (i 0).val < t.val % 2 + 1 := h 0; omega
  · intro h a
    match a with
    | 0 => show t.val % 2 ≤ (i 0).val ∧ (i 0).val < t.val % 2 + 1; omega
    | 1 => exact ⟨Nat.zero_le _, by have : (i 1).val < 128 := (i 1).isLt; show (i 1).val < 0 + 128; omega⟩
    | 2 => exact ⟨Nat.zero_le _, by have : (i 2).val < 4096 := (i 2).isLt; show (i 2).val < 0 + 4096; omega⟩
theorem rR_mem (t : Fin 4) (i : S4x128x4096.Idx) : i ∈ (rR t).set ↔ (i 0).val = t.val := by
  have ht := t.isLt
  rw [Rect.mem_set_unit]
  constructor
  · intro h; have h0 : t.val % 4 ≤ (i 0).val ∧ (i 0).val < t.val % 4 + 1 := h 0; omega
  · intro h a
    match a with
    | 0 => show t.val % 4 ≤ (i 0).val ∧ (i 0).val < t.val % 4 + 1; omega
    | 1 => exact ⟨Nat.zero_le _, by have : (i 1).val < 128 := (i 1).isLt; show (i 1).val < 0 + 128; omega⟩
    | 2 => exact ⟨Nat.zero_le _, by have : (i 2).val < 4096 := (i 2).isLt; show (i 2).val < 0 + 4096; omega⟩

/-- Slots told apart by an index's first coordinate are disjoint and cover. -/
theorem slots_apart {s : Shape} {n : ℕ} (R : Fin n → Rect s) (p : s.Idx → ℕ) (hp : ∀ i, p i < n) (h : ∀ t i, i ∈ (R t).set ↔ p i = t.val) :
    (∀ t t', t ≠ t' → Disjoint (R t).set (R t').set) ∧ (Finset.univ : Finset (Fin n)).biUnion (fun t => (R t).set) = Finset.univ := by
  constructor
  · intro t t' hne
    exact Finset.disjoint_left.mpr fun i h1 h2 => hne (Fin.ext (((h t i).mp h1).symm.trans ((h t' i).mp h2)))
  · ext i
    simp only [Finset.mem_biUnion, Finset.mem_univ, true_and, iff_true]
    exact ⟨⟨p i, hp i⟩, (h _ i).mpr rfl⟩

theorem aR_apart : (∀ t t', t ≠ t' → Disjoint (aR t).set (aR t').set) ∧ Finset.univ.biUnion (fun t => (aR t).set) = Finset.univ :=
  slots_apart aR (fun i => (i 0).val) (fun i => (i 0).isLt) aR_mem
theorem pR_apart : (∀ t t', t ≠ t' → Disjoint (pR t).set (pR t').set) ∧ Finset.univ.biUnion (fun t => (pR t).set) = Finset.univ :=
  slots_apart pR (fun i => (i 0).val) (fun i => (i 0).isLt) pR_mem
theorem rR_apart : (∀ t t', t ≠ t' → Disjoint (rR t).set (rR t').set) ∧ Finset.univ.biUnion (fun t => (rR t).set) = Finset.univ :=
  slots_apart rR (fun i => (i 0).val) (fun i => (i 0).isLt) rR_mem

theorem fin2_sep (Φ : Fin 2 → sProp 𝕄) : bigSep Finset.univ Φ = iprop(Φ 0 ∗ Φ 1) := by
  rw [show (Finset.univ : Finset (Fin 2)) = insert 0 {1} from by decide, BI.bigSep_insert (by decide), bigSep_singleton]; rfl
theorem fin4_sep (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, BI.bigSep_insert (by decide), BI.bigSep_insert (by decide),
    BI.bigSep_insert (by decide), bigSep_singleton]; rfl

theorem a_split : iprop(∃ f, ((c : Thread nD τ).loc cc0_scratch1) ↦{fullShare} f) ⊢ (iprop((∃ X, aS c 0 X) ∗ ∃ X, aS c 1 X) : sProp 𝕄) :=
  (slots_split (b := cc0_scratch1) c aR (fun _ _ => rfl) aR_apart.1 aR_apart.2).trans (Entails.of_eq (fin2_sep _))
theorem a_join : (iprop((∃ X, aS c 0 X) ∗ ∃ X, aS c 1 X) : sProp 𝕄) ⊢ iprop(∃ f, ((c : Thread nD τ).loc cc0_scratch1) ↦{fullShare} f) :=
  (Entails.of_eq (fin2_sep _).symm).trans (slots_join (b := cc0_scratch1) c aR (fun _ _ => rfl) aR_apart.1 aR_apart.2)
theorem p_split : iprop(∃ f, ((c : Thread nD τ).loc cc0_scratch2) ↦{fullShare} f) ⊢ (iprop((∃ X, pS c 0 X) ∗ ∃ X, pS c 1 X) : sProp 𝕄) :=
  (slots_split (b := cc0_scratch2) c pR (fun _ _ => rfl) pR_apart.1 pR_apart.2).trans (Entails.of_eq (fin2_sep _))
theorem p_join : (iprop((∃ X, pS c 0 X) ∗ ∃ X, pS c 1 X) : sProp 𝕄) ⊢ iprop(∃ f, ((c : Thread nD τ).loc cc0_scratch2) ↦{fullShare} f) :=
  (Entails.of_eq (fin2_sep _).symm).trans (slots_join (b := cc0_scratch2) c pR (fun _ _ => rfl) pR_apart.1 pR_apart.2)
theorem r_split : iprop(∃ f, ((c : Thread nD τ).loc cc0_scratch3) ↦{fullShare} f)
    ⊢ (iprop((∃ X, rS c 0 X) ∗ (∃ X, rS c 1 X) ∗ (∃ X, rS c 2 X) ∗ ∃ X, rS c 3 X) : sProp 𝕄) :=
  (slots_split (b := cc0_scratch3) c rR (fun _ _ => rfl) rR_apart.1 rR_apart.2).trans (Entails.of_eq (fin4_sep _))
theorem r_join : (iprop((∃ X, rS c 0 X) ∗ (∃ X, rS c 1 X) ∗ (∃ X, rS c 2 X) ∗ ∃ X, rS c 3 X) : sProp 𝕄)
    ⊢ iprop(∃ f, ((c : Thread nD τ).loc cc0_scratch3) ↦{fullShare} f) :=
  (Entails.of_eq (fin4_sep _).symm).trans (slots_join (b := cc0_scratch3) c rR (fun _ _ => rfl) rR_apart.1 rR_apart.2)

/-- A whole buffer at some contents, as a points-to and as a memref's. -/
theorem whole_ex (b : Ref sig .tc) : (iprop(∃ f, ((c : Thread nD τ).loc b) ↦{fullShare} f) : sProp 𝕄)
    = iprop(∃ X : b.ty.Contents (Elt F), owns (c : Thread nD τ) (Memref.whole b) fullShare X) :=
  by simp only [owns_whole]

end Cert.Proof.MM

end
-- ==== Proof.Head.lean ====
/-
  What the kernel does before its loop: the hand-shake with the peer, the copies in, the first edge chunk.
-/
module

public import proofs.«01_k».proof.Proof.Bufs

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-! ## Up to the first edge chunk's product -/

/-- The first part of the kernel on its buffers. -/
abbrev headP : Prog (TpuEff nD τ sig (Elt F) Λ₀ .tc) (Σ' (d0 : Dev nD) (v5 : BitVec 32) (v6 : BitVec 32), FVec F S64x4096 .f32) :=
  k0_part3 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15

theorem off1_1 : k0_off1 1#32 = ![1 % 2] := by decide
theorem off2_1 : k0_off2 = ![1 % 2, 0, 0] := k0_off2_eq

/-- What the head takes. -/
def HeadIn (K : GSem nD τ sig → ℕ) : sProp 𝕄 :=
  iprop(Recs m K ∗ levAts L lv ∗ (((c : Thread nD τ).loc main_arg0) ↦{fullShare} (Ac m c)) ∗ (((c : Thread nD τ).loc main_arg1) ↦{fullShare} (Bc m c))
    ∗ (∃ X, owns (c : Thread nD τ) bM fullShare X) ∗ (∃ X, aS c 1 X) ∗ (∃ X, aeS c X)
    ∗ (∃ f, ((c : Thread nD τ).loc cc0_scratch3) ↦{fullShare} f) ∗ (∃ X, reS c X)
    ∗ sv c sB ∗ sv c (sA 1) ∗ sv c sAE
    ∗ dutyTok ER (barCell (peer c)) 0 () ∗ cred (tallyAt (barCell c) 0 1) ∗ atPos ER (barCell c) 0 ∅ 0
    ∗ (∃ W, owes (c : Thread nD τ) (O₀ c) W))

/-- What it leaves. -/
def HeadOut : sProp 𝕄 :=
  iprop((((c : Thread nD τ).loc main_arg0) ↦{fullShare.right} (Ac m c)) ∗ (((c : Thread nD τ).loc main_arg1) ↦{fullShare} (Bc m c))
    ∗ owns (c : Thread nD τ) bM fullShare (Bc m c) ∗ Flight EC (c : Thread nD τ) (.dma (sA 1)) 0 NA iprop(aS c 1 (aBlk m c 1) ∗ AL m c)
    ∗ (∃ X, aeS c X) ∗ sv c sB ∗ sv c sAE ∗ barPay c ∗ atPos ER (barCell c) 1 ∅ 0 ∗ (∃ W, owes (c : Thread nD τ) (Ow1 c) W))

set_option maxHeartbeats 1000000 in
theorem head_spec (K : GSem nD τ sig → ℕ) :
    HeadIn m c K ⊢ wp frame (wpE defs₀ Variants.none (c : Thread nD τ) none) Set.univ (headP (F := F))
      (fun r => iprop(⌜r.1 = c ∧ r.2.2.2 = k0_pay3 (aE0 m c) (Bc m c)⌝ ∗ HeadOut m c)) := by
  generalize hI : (fun r : (Σ' (d0 : Dev nD) (v5 : BitVec 32) (v6 : BitVec 32), FVec F S64x4096 .f32) =>
    (iprop(⌜r.1 = c ∧ r.2.2.2 = k0_pay3 (aE0 m c) (Bc m c)⌝ ∗ HeadOut m c) : sProp 𝕄)) = I
  unfold headP
  rw [k0_part3_eq_skeleton]
  unfold k0_part3_skel
  simp only [semSignalWord, semWaitWord, Prog.lift, Prog.bind_op, Prog.bind_ret, Prog.pure_eq_ret, wp_deviceId, dev1_eq]
  unfold HeadIn
  iintro ⟨#HR, #HL, HA, HB, ⟨%Xb, Hb⟩, ⟨%Xa, Ha⟩, ⟨%Xe, Hae⟩, Hr3, Hre, HvB, HvA, HvAE, Htk, Hcr, Hat, ⟨%W, HO⟩⟩
  -- the hand-shake
  ihave HRp := (Recs_bar m K (peer c)) $$ HR
  icases HRp with ⟨HIp, Hrp⟩
  iapply (Rounds.wp_signal Variants.none ER (Rd m) (c : Thread nD τ) none (dst := (peer c : Thread nD τ)) (κ := K (barCell (peer c))) (d := ())
    (by rw [duties_bar]; exact Finset.mem_singleton_self _) (by rw [amount_bar]) 0 (Ow1 c) (O₀ := O₀ c) (rfl)) $$ [HIp HO Htk Hrp Hr3 Hre]
  · isplitl [HIp]; · iexact HIp
    isplitl [HO]; · iexact HO
    isplitl [Htk]; · iexact Htk
    isplitl [Hr3 Hre]
    · rw [payload_bar]
      unfold barPay
      rw [peer_peer]
      isplitl [Hr3] <;> iassumption
    iexact Hrp
  iintro HO
  ihave HRc := (Recs_bar m K c) $$ HR
  icases HRc with ⟨HIc, -⟩
  ihave #Hm := (mw_bar (F := F) c) $$ HL
  iapply (Rounds.wp_wait_rest_token Variants.none ER (Rd m) (c : Thread nD τ) none (κ := K (barCell c)) (wpE_semWait_eq Variants.none (c : Thread nD τ) none Set.univ) (Set.mem_univ _) 0
    (O := Ow1 c) (W := W) (R := 0) (m := 0) (T := ∅) (by rw [expect_bar]; rfl)) $$ [HIc Hcr HO Hat]
  · isplitl [HIc]; · iexact HIc
    isplitl [Hcr]; · iexact Hcr
    isplitl [HO]; · iexact HO
    isplitr; · iexact Hm
    iexact Hat
  iintro ⟨HO, Hat, -, Hpay⟩
  ihave Hpay := (Entails.of_eq (rest_bar m c)) $$ Hpay
  -- the copies in
  iapply (st_copy Variants.none c none sem_b NB (by rfl) NB_pos (((c : Thread nD τ).loc main_arg1) ↦{fullShare} (Bc m c)) (owns (c : Thread nD τ) bM fullShare Xb) (owns (c : Thread nD τ) bM fullShare (Bc m c))
    (owns_whole (c : Thread nD τ) main_arg1 fullShare (Bc m c)) rfl rfl) $$ [HB Hb HvB]
  · isplitl [HB]; · iexact HB
    isplitl [Hb] <;> iassumption
  iintro HFB
  ihave HA2 := (pointsTo_share (PosShare.mem_left_op_right fullShare)).1 $$ HA
  icases HA2 with ⟨HAL, HAR⟩
  iapply (st_copyIn (g := Ac m c) Variants.none c none sem_ae NAE (by rfl) NAE_pos (aeS c Xe) (aeS c (aE0 m c)) rfl rfl) $$ [HAR Hae HvAE]
  · isplitl [HAR]; · iexact HAR
    isplitl [Hae] <;> iassumption
  iintro HFE
  iapply (st_copyIn (g := Ac m c) Variants.none c none (sem_a (k := 1) off1_1 _ _) NA (by rfl) NA_pos (aS c 1 Xa) (aS c 1 (aBlk m c 1))
      (a_win c (k := 1) off2_1 _ _ fullShare Xa)
      ((congrArg (fun Y => owns (c : Thread nD τ) _ fullShare Y) (a_rows m c (k := 1) (by omega) rfl inb_S4096x2048_S128x2048_64_0)).trans (a_win c (k := 1) off2_1 _ _ fullShare _))) $$ [HAL Ha HvA]
  · isplitl [HAL]; · iexact HAL
    isplitl [Ha] <;> iassumption
  iintro HFA
  ihave #HmB := (mw_local1 (F := F) c sB (.inl (by decide))) $$ HL
  iapply (st_wait Variants.none c none (sem₀ := sB) sem_b (N := NB) (by rfl)) $$ [HFB HO]
  · isplitl [HFB]; · iexact HFB
    isplitl [HO]; · iexact HO
    iexact HmB
  iintro ⟨⟨Hb, HB⟩, HvB, ⟨%W2, HO⟩⟩
  ihave #HmE := (mw_local1 (F := F) c sAE (.inl (by decide))) $$ HL
  iapply (st_wait Variants.none c none (sem₀ := sAE) sem_ae (N := NAE) (by rfl)) $$ [HFE HO]
  · isplitl [HFE]; · iexact HFE
    isplitl [HO]; · iexact HO
    iexact HmE
  iintro ⟨⟨Hae, HAR⟩, HvAE, HO⟩
  -- the edge chunk's product
  iapply (wp_load_all Variants.none c none) $$ Hae
  iintro Hae
  iapply (wp_load_all Variants.none c none) $$ Hb
  iintro Hb
  rw [wp_ret]
  imodintro
  subst hI
  unfold HeadOut
  isplitr
  · ipureintro; exact ⟨rfl, rfl⟩
  isplitl [HAR]; · iexact HAR
  isplitl [HB]; · iexact HB
  isplitl [Hb]; · iexact Hb
  isplitl [HFA]; · iexact HFA
  isplitl [Hae]; · iexists _; iexact Hae
  isplitl [HvB]; · iexact HvB
  isplitl [HvAE]; · iexact HvAE
  isplitl [Hpay]; · iexact Hpay
  isplitl [Hat]; · iexact Hat
  iexact HO

end Cert.Proof.MM

end
-- ==== Proof.Trip.lean ====
module

public import proofs.«01_k».proof.Proof.State

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-- The body of the loop on the kernel's buffers. -/
abbrev tripP (d0 : Dev nD) (v5 v6 : BitVec 32) (v23 : FVec F S64x4096 .f32) (t : Fin k0_t1_loop.trips) : Prog (TpuEff nD τ sig (Elt F) Λ₀ .tc) Unit :=
  k0_t1_body (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 d0 v5 v6 v23 t ()

theorem bind_dite' {E : Type → Type} {α β : Type} {p : Prop} [Decidable p] (A : p → Prog E α) (B : ¬ p → Prog E α) (k : α → Prog E β) :
    (dite p A B >>= k) = dite p (fun h => A h >>= k) fun h => B h >>= k := by
  split <;> rfl

set_option maxHeartbeats 1000000 in
theorem trip_spec (K : GSem nD τ sig → ℕ) (v5 v6 : BitVec 32) (v23 : FVec F S64x4096 .f32) (t : Fin k0_t1_loop.trips) :
    Inv m c K t.val ⊢ wp frame (wpE defs₀ Variants.none (c : Thread nD τ) none) Set.univ (tripP (F := F) c v5 v6 v23 t) (fun _ => Inv m c K (t.val + 1)) := by
  have ht : t.val < 31 := by have := t.isLt; have := trips_eq; omega
  generalize hI : Inv m c K (t.val + 1) = I
  unfold tripP k0_t1_body
  rw [k0_part2_eq_skeleton, k0_part1_eq_skeleton]
  unfold k0_part2_skel k0_part1_skel
  simp only [Prog.lift, Prog.bind_op, Prog.bind_ret, Prog.pure_eq_ret, bind_dite']
  unfold Inv ALd
  rw [if_pos ht]
  iintro ⟨#HR, #HL, HB, HA, HOF, HSF, Hss, Hso, Hod, ⟨%fo, Hor⟩, HRS, HG, HSl, HTk, HPE, HEd, ⟨%W, HO⟩⟩
  -- the chunk of `A` has come
  icases HA with ⟨HF, HaO, HvO, Hae, Hvae⟩
  ihave #Hm := (mw_local c (sA (t.val + 1)) (sA_loc _) (k := t.val) (by omega)) $$ HL
  iapply (st_wait Variants.none c none (sem₀ := sA (t.val + 1)) (sem_a (k0_off3_eq t) _ _) (N := NA) (by rfl)) $$ [HF HO]
  · isplitl [HF]; · iexact HF
    isplitl [HO]; · iexact HO
    iexact Hm
  iintro ⟨⟨Ha, HAL⟩, HvN, HO⟩
  -- the slot to compute into is free
  iapply (wp_ite Variants.none c none iprop(levAts L lv ∗ OFl m c t.val ∗ outR c 64 (64 + 128 * (t.val - 2)) (outV m c) ∗ (∃ W, owes (c : Thread nD τ) (Ow c t.val) W))
      iprop(OFree m c t.val ∗ (∃ W, owes (c : Thread nD τ) (Ow c t.val) W)) ?_ ?_) $$ [HOF Hod HO]
  · intro hc1
    have h2 : 2 ≤ t.val := (cond1_iff t).1 hc1
    unfold OFl
    rw [if_neg (by omega)]
    iintro ⟨#HL, HF, Hod, ⟨%W1, HO⟩⟩ Hk
    ihave #Hm := (mw_local c (sO (t.val + 1)) (sO_loc _) (k := t.val) (by omega)) $$ HL
    iapply (st_wait Variants.none c none (sem₀ := sO (t.val + 1)) (sem_o (off6_eq t h2) _ _) (N := NO) (by rfl)) $$ [HF HO]
    · isplitl [HF]; · iexact HF
      isplitl [HO]; · iexact HO
      iexact Hm
    iintro ⟨⟨Ho, Hp⟩, Hv, HO⟩
    iapply Hk
    isplitr [HO]
    · isplitl [Hp]
      · iexists _
        rw [pS_congr c (k := t.val + 1) (k' := t.val - 1) (by omega)]
        iexact Hp
      isplitl [Hv]; · iexact Hv
      iapply (outR_join c (a := 64) (b := 64 + 128 * (t.val - 2)) (d := 64 + 128 * (t.val - 1)) (by omega) (by omega) (outV m c))
      isplitl [Hod] <;> iassumption
    · iexact HO
  · intro hc1
    have h2 : t.val < 2 := by
      by_contra h
      exact hc1 ((cond1_iff t).2 (by omega))
    unfold OFl
    rw [if_pos h2, show t.val - 2 = t.val - 1 from by omega]
    iintro ⟨-, ⟨Hp, Hv⟩, Hod, HO⟩
    isplitr [HO]
    · isplitl [Hp]; · iexact Hp
      isplitl [Hv] <;> iassumption
    · iexact HO
  · isplitr; · iexact HL
    isplitl [HOF]; · iexact HOF
    isplitl [Hod]; · iexact Hod
    iexact HO
  iintro ⟨⟨⟨%X, Hp⟩, HvOn, Hod⟩, ⟨%W1, HO⟩⟩
  -- the chunk's product
  iapply (wp_load_win Variants.none c none (k0_off9_eq t)) $$ Ha
  iintro Ha
  iapply (wp_load_all Variants.none c none) $$ HB
  iintro HB
  iapply (wp_load_win Variants.none c none (k0_off10_eq t)) $$ Hp
  iintro Hp
  iapply (wp_store_win Variants.none c none (k0_off10_eq t)) $$ Hp
  iintro Hp
  -- sent
  ihave HT := (Toks_take c ht) $$ HTk
  icases HT with ⟨Htk, HTk⟩
  ihave HS := (Slots_take c ht) $$ HSl
  icases HS with ⟨⟨Hr, #Hrr⟩, HSl⟩
  iapply (st_send m Variants.none c none K (j := t.val + 1) (by omega) (by omega) (k0_off13_eq t) (k0_off12_eq t) (dev3_eq c) (sem_s (k0_off3_eq t) _ _) (sem_r (k0_off11_eq t) _ _)) $$ [Hp Hr Hss HO Htk HG]
  · isplitr; · iexact HR
    isplitl [Hp]; · iexact Hp
    isplitl [Hr]; · iexact Hr
    isplitl [Hss]; · iexact Hss
    isplitl [HO]; · iexact HO
    isplitl [Htk]; · iexact Htk
    isplitr; · iexact Hrr
    iexact HG
  iintro ⟨HSn, HO⟩
  -- the next chunk of `A`
  iapply (wp_ite Variants.none c none (ARest m c t.val) (AMid m c t.val) ?_ ?_) $$ [Ha HAL HvN HaO HvO Hae Hvae]
  · intro hc2
    have h2 : t.val < 30 := (cond2_iff t).1 hc2
    unfold AMid ALd
    rw [if_pos h2, if_pos (by omega)]
    iintro ⟨HAL, Ha, HvN, ⟨%X, HaO⟩, HvO, Hae, Hvae⟩ Hk
    iapply (st_copyIn (g := Ac m c) Variants.none c none (sem_a (k := t.val + 2) (k0_off14_eq t) _ _) NA (by rfl) NA_pos (aS c (t.val + 2) X) (aS c (t.val + 2) (aBlk m c (t.val + 2)))
      (a_win c (k := t.val + 2) (k0_off15_eq t) _ _ fullShare X)
      ((congrArg (fun Y => owns (c : Thread nD τ) _ fullShare Y) (a_rows m c (k := t.val + 2) (by omega) (off16_eq t h2) (k0_off16_inb t hc2))).trans (a_win c (k := t.val + 2) (k0_off15_eq t) _ _ fullShare _))) $$ [HAL HaO HvO]
    · isplitl [HAL]; · iexact HAL
      isplitl [HaO]
      · rw [aS_congr c (k := t.val + 2) (k' := t.val) (by omega)]; iexact HaO
      · rw [sA_congr (k := t.val + 2) (k' := t.val) (by omega)]; iexact HvO
    iintro HF
    iapply Hk
    isplitl [HF]; · iexact HF
    isplitl [Ha]; · iexact Ha
    isplitl [HvN]; · iexact HvN
    isplitl [Hae] <;> iassumption
  · intro hc2
    have h2 : ¬ t.val < 30 := fun h => hc2 ((cond2_iff t).2 h)
    unfold AMid
    rw [if_neg h2]
  · isplitl [HAL]; · iexact HAL
    isplitl [Ha]; · iexists _; iexact Ha
    isplitl [HvN]; · iexact HvN
    isplitl [HaO]; · iexact HaO
    isplitl [HvO]; · iexact HvO
    isplitl [Hae] <;> iassumption
  iintro HA
  iapply (wp_ite Variants.none c none (AMid m c t.val) (ALd m c (t.val + 1)) ?_ ?_) $$ [HA]
  · intro hc3
    have h3 : t.val = 30 := (cond3_iff t).1 hc3
    unfold AMid ALd
    rw [if_neg (by omega), if_neg (by omega)]
    iintro ⟨HAL, Ha, HvN, ⟨%X, HaO⟩, HvO, ⟨%Y, Hae⟩, Hvae⟩ Hk
    iapply (st_copyIn (g := Ac m c) Variants.none c none sem_ae NAE (by rfl) NAE_pos (aeS c Y) (aeS c (aE1 m c)) rfl rfl) $$ [HAL Hae Hvae]
    · isplitl [HAL]; · iexact HAL
      isplitl [Hae] <;> iassumption
    iintro HF
    iapply Hk
    isplitl [HF]; · iexact HF
    isplitl [Ha]; · iexact Ha
    isplitl [HvN]; · iexact HvN
    isplitl [HaO]
    · iexists X
      rw [aS_congr c (k := t.val + 1 + 1) (k' := t.val) (by omega)]; iexact HaO
    · rw [sA_congr (k := t.val + 1 + 1) (k' := t.val) (by omega)]; iexact HvO
  · intro hc3
    have h3 : ¬ t.val = 30 := fun h => hc3 ((cond3_iff t).2 h)
    unfold AMid
    rw [if_pos (by omega)]
  · iexact HA
  iintro HA
  -- the first edge chunk
  iapply (wp_ite Variants.none c none iprop(Recs m K ∗ levAts L lv ∗ Ed m c t.val ∗ (∃ W, owes (c : Thread nD τ) (Ow c (t.val + 1)) W))
      iprop(Ed m c (t.val + 1) ∗ EGive c t.val ∗ (∃ W, owes (c : Thread nD τ) (Ow c (t.val + 1)) W)) ?_ ?_) $$ [HEd HO]
  · intro hc4
    have h4 : t.val = 0 := (cond4_iff t).1 hc4
    unfold Ed EGive give
    rw [if_pos h4, if_neg (by omega), if_pos h4, if_pos rfl]
    iintro ⟨#HR, #HL, ⟨HF, Hcr, Hat, Hvo, ⟨%fe, Hoe⟩⟩, ⟨%W1, HO⟩⟩ Hk
    ihave #Hm := (mw_edge c (k := t.val + 1) (by omega)) $$ HL
    iapply (st_recvE m Variants.none c none K 0 0 (by omega) sem_er (by rfl)) $$ [Hcr HO Hat]
    · isplitr; · iexact HR
      isplitl [Hcr]; · iexact Hcr
      isplitl [HO]; · iexact HO
      isplitr; · iexact Hm
      iexact Hat
    iintro ⟨⟨%W2, HO⟩, Hat, Hrr, Hre⟩
    ihave #Hm2 := (mw_local c sES (.inr rfl) (k := t.val + 1) (by omega)) $$ HL
    iapply (st_wait Variants.none c none (sem₀ := sES) sem_es (N := NE) (by rfl)) $$ [HF HO]
    · isplitl [HF]; · iexact HF
      isplitl [HO]; · iexact HO
      iexact Hm2
    iintro ⟨Hpe, Hvs, HO⟩
    ihave Hre := (show edgePay m c 0 ⊢ reS c (pE0 m (peer c)) from .rfl) $$ Hre
    iapply (wp_load_all Variants.none c none) $$ Hpe
    iintro Hpe
    iapply (wp_load_all Variants.none c none) $$ Hre
    iintro Hre
    iapply (wp_load_all Variants.none c none) $$ Hpe
    iintro Hpe
    iapply (wp_store_all Variants.none c none) $$ Hpe
    iintro Hpe
    iapply (st_copy Variants.none c none sem_oe NOE (by rfl) NOE_pos (peS c (sE0 m c)) (outR c 0 64 fe) (outR c 0 64 (outV m c)) rfl
      (o_win c (a := 0) (b := 64) rfl _ rfl rfl fe)
      (by rw [← out_edge0 m c inb_S4096x4096_S64x4096_0_0]; exact o_win c (a := 0) (b := 64) rfl _ rfl rfl (outV m c))) $$ [Hpe Hoe Hvo]
    · isplitl [Hpe]; · iexact Hpe
      isplitl [Hoe] <;> iassumption
    iintro HF
    iapply Hk
    isplitl [Hvs Hat HF]
    · isplitl [Hvs]; · iexact Hvs
      isplitl [Hat] <;> iassumption
    isplitr [HO]
    · isplitl [Hre]; · iexists _; iexact Hre
      iexact Hrr
    · iexact HO
  · intro hc4
    have h4 : ¬ t.val = 0 := fun h => hc4 ((cond4_iff t).2 h)
    unfold Ed EGive
    rw [if_neg h4, if_neg (by omega), if_neg h4]
    iintro ⟨-, -, H, HO⟩
    isplitl [H]; · iexact H
    isplitr; · iempintro
    iexact HO
  · isplitr; · iexact HR
    isplitr; · iexact HL
    isplitl [HEd]; · iexact HEd
    iexists _; iexact HO
  iintro ⟨HEd, HEG, HO⟩
  -- the chunk before: received, summed, on its way to the result
  iapply (wp_ite Variants.none c none
      iprop(Recs m K ∗ levAts L lv ∗ SFl m c t.val ∗ sv c (sO t.val) ∗ outR c (64 + 128 * (t.val - 1)) 4096 fo ∗ RSt c (t.val - 1) ∗ EGive c t.val ∗ PE c t.val ∗ SlotsM c t.val
        ∗ (∃ W, owes (c : Thread nD τ) (Ow c (t.val + 1)) W))
      iprop(OFl m c (t.val + 1) ∗ sv c (sS (t.val + 1 + 1)) ∗ (∃ f, outR c (64 + 128 * t.val) 4096 f) ∗ RSt c t.val ∗ give c (t.val + 1 + 1) ∗ PE c (t.val + 1) ∗ Slots c (t.val + 1)
        ∗ (∃ W, owes (c : Thread nD τ) (Ow c (t.val + 1)) W)) ?_ ?_) $$ [HSF Hso Hor HRS HEG HPE HSl HO]
  · intro hc5
    have h5 : 1 ≤ t.val := (cond5_iff t).1 hc5
    have hRT := RSt_take (F := F) c (n := t.val - 1) (by omega)
    rw [show t.val - 1 + 1 = t.val from by omega] at hRT
    unfold SFl EGive OFl
    rw [if_neg (by omega), if_neg (by omega), if_neg (by omega)]
    iintro ⟨#HR, #HL, HF, Hvo, Hor, HRS, -, HPE, HSl, ⟨%W1, HO⟩⟩ Hk
    ihave HRS := hRT $$ HRS
    icases HRS with ⟨Hcr, Hat, HRS⟩
    ihave #Hm := (mw_recv c (j := t.val) (k := t.val + 1) (by omega) (by omega)) $$ HL
    iapply (st_recv m Variants.none c none K (j := t.val) h5 (by omega) (sem_r (k0_off17_eq t) _ _) (by rfl)) $$ [Hcr HO Hat]
    · isplitr; · iexact HR
      isplitl [Hcr]; · iexact Hcr
      isplitl [HO]; · iexact HO
      isplitr; · iexact Hm
      iexact Hat
    iintro ⟨⟨%W2, HO⟩, Hat, Hrr, Hr, HG⟩
    ihave #Hm2 := (mw_local c (sS t.val) (sS_loc _) (k := t.val + 1) (by omega)) $$ HL
    iapply (st_wait Variants.none c none (sem₀ := sS t.val) (sem_s (k0_off20_eq t) _ _) (N := NR) NR_send) $$ [HF HO]
    · isplitl [HF]; · iexact HF
      isplitl [HO]; · iexact HO
      iexact Hm2
    iintro ⟨Hp, Hvs, HO⟩
    iapply (wp_load_win Variants.none c none (k0_off21_eq t)) $$ Hp
    iintro Hp
    iapply (wp_load_win Variants.none c none (k0_off22_eq t)) $$ Hr
    iintro Hr
    iapply (wp_load_win Variants.none c none (k0_off21_eq t)) $$ Hp
    iintro Hp
    iapply (wp_store_win Variants.none c none (k0_off21_eq t)) $$ Hp
    iintro Hp
    ihave Ho := (outR_split c (a := 64 + 128 * (t.val - 1)) (b := 64 + 128 * t.val) (d := 4096) (by omega) (by omega) fo) $$ Hor
    icases Ho with ⟨Ho, Hor⟩
    iapply (st_copy Variants.none c none (sem_o (k0_off20_eq t) _ _) NO (by rfl) NO_pos (pS c t.val (sumC m c t.val)) (outR c (64 + 128 * (t.val - 1)) (64 + 128 * t.val) fo)
      (outR c (64 + 128 * (t.val - 1)) (64 + 128 * t.val) (outV m c))
      (p_win c (k0_off19_eq t) _ _ fullShare (sumC m c t.val))
      (o_win c (off23_eq t h5) _ (by show 64 + 128 * (t.val - 1) + 128 = 64 + 128 * t.val; omega) rfl fo)
      (by rw [← out_chunk m c h5 (by omega) (off23_eq t h5) (k0_off23_inb t hc5)]
          exact o_win c (off23_eq t h5) _ (by show 64 + 128 * (t.val - 1) + 128 = 64 + 128 * t.val; omega) rfl (outV m c))) $$ [Hp Ho Hvo]
    · isplitl [Hp]; · iexact Hp
      isplitl [Ho] <;> iassumption
    iintro HF
    iapply Hk
    ihave HGK := (own_give c h5 (by omega) (part m (peer c) t.val)) $$ [Hr Hrr]
    · isplitl [Hr] <;> iassumption
    icases HGK with ⟨HG2, HK⟩
    ihave HPS := (give_use c (t := t.val) (by omega)) $$ [HG HPE HSl]
    · isplitl [HG]; · iexact HG
      isplitl [HPE] <;> iassumption
    icases HPS with ⟨HPE, HSl⟩
    isplitl [HF]
    · rw [show t.val + 1 - 2 = t.val - 1 from by omega, show t.val + 1 - 1 = t.val from by omega, sO_congr (k := t.val + 1 + 1) (k' := t.val) (by omega)]
      iexact HF
    isplitl [Hvs]
    · rw [sS_congr (k := t.val + 1 + 1) (k' := t.val) (by omega)]; iexact Hvs
    isplitl [Hor]; · iexists _; iexact Hor
    isplitl [HRS Hat HK]
    · iapply HRS
      isplitl [Hat] <;> iassumption
    isplitl [HG2]; · iexact HG2
    isplitl [HPE]; · iexact HPE
    isplitl [HSl]; · iexact HSl
    iexact HO
  · intro hc5
    have h5 : t.val = 0 := by
      by_contra h
      exact hc5 ((cond5_iff t).2 (by omega))
    have hg := give_use (F := F) c (t := 0) (by omega)
    rw [give_zero] at hg
    rw [h5]
    unfold SFl EGive OFl
    rw [if_pos rfl, if_pos rfl, if_pos (by omega)]
    iintro ⟨-, -, ⟨Hp, Hvs⟩, Hvo, Hor, HRS, HG, HPE, HSl, HO⟩
    ihave HPS := hg $$ [HPE HSl]
    · isplitr; · iempintro
      isplitl [HPE] <;> iassumption
    icases HPS with ⟨HPE, HSl⟩
    isplitl [Hp Hvo]
    · isplitl [Hp]
      · icases Hp with ⟨%X, Hp⟩
        iexists X
        iapply (show pS c 0 X ⊢ pS c (0 + 1 + 1) X from by rw [pS_congr c (k := 0 + 1 + 1) (k' := 0) (by omega)])
        iexact Hp
      · rw [sO_congr (k := 0 + 1 + 1) (k' := 0) (by omega)]; iexact Hvo
    isplitl [Hvs]
    · rw [sS_congr (k := 0 + 1 + 1) (k' := 0) (by omega)]; iexact Hvs
    isplitl [Hor]; · iexists _; iexact Hor
    isplitl [HRS]; · iexact HRS
    isplitl [HG]; · iexact HG
    isplitl [HPE]; · iexact HPE
    isplitl [HSl]; · iexact HSl
    iexact HO
  · isplitr; · iexact HR
    isplitr; · iexact HL
    isplitl [HSF]; · iexact HSF
    isplitl [Hso]; · iexact Hso
    isplitl [Hor]; · iexact Hor
    isplitl [HRS]; · iexact HRS
    isplitl [HEG]; · iexact HEG
    isplitl [HPE]; · iexact HPE
    isplitl [HSl]; · iexact HSl
    iexact HO
  iintro ⟨HOF, Hss, Hor, HRS, HG, HPE, HSl, HO⟩
  rw [← hI]
  rw [wp_ret]
  imodintro
  iapply (show iprop(Recs m K ∗ levAts L lv ∗ owns (c : Thread nD τ) bM fullShare (Bc m c) ∗ ALd m c (t.val + 1) ∗ OFl m c (t.val + 1)
      ∗ Flight EC (c : Thread nD τ) (.dma (sS (t.val + 1))) 0 NR (pS c (t.val + 1) (part m c (t.val + 1))) ∗ sv c (sS (t.val + 1 + 1)) ∗ sv c (sO (t.val + 1))
      ∗ outR c 64 (64 + 128 * (t.val - 1)) (outV m c) ∗ (∃ f, outR c (64 + 128 * t.val) 4096 f)
      ∗ RSt c t.val ∗ give c (t.val + 1 + 1) ∗ Slots c (t.val + 1) ∗ Toks c (t.val + 1) ∗ PE c (t.val + 1) ∗ Ed m c (t.val + 1) ∗ (∃ W, owes (c : Thread nD τ) (Ow c (t.val + 1)) W))
      ⊢ Inv m c K (t.val + 1) from by
    unfold Inv SFl
    rw [if_neg (by omega), show t.val + 1 - 2 = t.val - 1 from by omega, show t.val + 1 - 1 = t.val from by omega])
  isplitr; · iexact HR
  isplitr; · iexact HL
  isplitl [HB]; · iexact HB
  isplitl [HA]; · iexact HA
  isplitl [HOF]; · iexact HOF
  isplitl [HSn]; · iexact HSn
  isplitl [Hss]; · iexact Hss
  isplitl [HvOn]; · iexact HvOn
  isplitl [Hod]; · iexact Hod
  isplitl [Hor]; · iexact Hor
  isplitl [HRS]; · iexact HRS
  isplitl [HG]; · iexact HG
  isplitl [HSl]; · iexact HSl
  isplitl [HTk]; · iexact HTk
  isplitl [HPE]; · iexact HPE
  isplitl [HEd]; · iexact HEd
  iexact HO

end Cert.Proof.MM
-- ==== Proof.Mid.lean ====
/-
  The loop with the two edge chunks sent before and after it.
-/
module

public import proofs.«01_k».proof.Proof.Bufs
public import proofs.«01_k».proof.Proof.Trip

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

theorem loop_spec (K : GSem nD τ sig → ℕ) (v5 v6 : BitVec 32) (v23 : FVec F S64x4096 .f32) {β : Type} {kk : Unit → Prog (TpuEff nD τ sig (Elt F) Λ₀ .tc) β} {Q : β → sProp 𝕄} :
    Inv m c K 0 ⊢ iprop((Inv m c K 31 -∗ wp frame (wpE defs₀ Variants.none (c : Thread nD τ) none) Set.univ (kk ()) Q)
      -∗ wp frame (wpE defs₀ Variants.none (c : Thread nD τ) none) Set.univ
          (Scf.Loop.for k0_t1_loop k0_t1_ok ⟨⟩ (k0_t1_body (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v5 v6 v23) >>= kk) Q) := by
  iintro HI Hk
  iapply (Scf.wp_for_bind frame (wpE defs₀ Variants.none (c : Thread nD τ) none) Set.univ k0_t1_loop.lb k0_t1_loop.ub k0_t1_loop.st k0_t1_ok _ _
    (fun k _ => Inv m c K k) (fun k acc => trip_spec m c K v5 v6 v23 k)) $$ [HI]
  · iexact HI
  iintro %acc HI
  iapply Hk
  iapply (Entails.of_eq (congrArg (Inv m c K) trips_eq))
  iexact HI

/-- The part of the kernel with the loop, on its buffers. -/
abbrev midP (d0 : Dev nD) (v5 v6 : BitVec 32) (v23 : FVec F S64x4096 .f32) : Prog (TpuEff nD τ sig (Elt F) Λ₀ .tc) (BitVec 32) :=
  k0_part4 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 d0 v5 v6 v23

/-- What it takes. -/
def MidIn (K : GSem nD τ sig → ℕ) : sProp 𝕄 :=
  iprop(Recs m K ∗ levAts L lv ∗ owns (c : Thread nD τ) bM fullShare (Bc m c)
    ∗ Flight EC (c : Thread nD τ) (.dma (sA 1)) 0 NA iprop(aS c 1 (aBlk m c 1) ∗ AL m c)
    ∗ (∃ X, aeS c X) ∗ sv c sAE ∗ (∃ X, aS c 0 X) ∗ sv c (sA 0)
    ∗ (∃ X, pS c 0 X) ∗ (∃ X, pS c 1 X) ∗ sv c (sO 0) ∗ sv c (sO 1) ∗ sv c (sS 0) ∗ sv c (sS 1)
    ∗ (∃ X, peS c X) ∗ barPay c ∗ sv c sES ∗ sv c sOE ∗ (∃ f, ((c : Thread nD τ).loc main_v1) ↦{fullShare} f)
    ∗ dutyTok ER (eCell (peer c)) 0 () ∗ dutyTok ER (eCell (peer c)) 1 () ∗ cred (tallyAt (eCell c) 0 NE) ∗ atPos ER (eCell c) 0 ∅ 0
    ∗ RSt c 0 ∗ Toks c 0 ∗ (∃ W, owes (c : Thread nD τ) (Ow1 c) W))

/-- What it leaves. -/
def MidOut : sProp 𝕄 :=
  iprop(owns (c : Thread nD τ) bM fullShare (Bc m c) ∗ AL m c ∗ (∃ X, aeS c X) ∗ sv c sAE
    ∗ (∃ X, aS c 31 X) ∗ sv c (sA 31) ∗ (∃ X, aS c 32 X) ∗ sv c (sA 32)
    ∗ Flight EC (c : Thread nD τ) (.dma (sO 32)) 0 NO iprop(outR c (64 + 128 * 29) (64 + 128 * 30) (outV m c) ∗ pS c 30 (sumC m c 30))
    ∗ Flight EC (c : Thread nD τ) (.dma (sS 31)) 0 NR (pS c 31 (part m c 31)) ∗ sv c (sS 32) ∗ sv c (sO 31)
    ∗ outR c 0 (64 + 128 * 29) (outV m c) ∗ (∃ f, outR c (64 + 128 * 30) 4096 f)
    ∗ RSt c 30 ∗ atPos ER (eCell c) 1 ∅ 0 ∗ sv c sOE ∗ Flight EC (c : Thread nD τ) (.dma sES) 0 NE (peS c (pE1 m c))
    ∗ (∃ W, owes (c : Thread nD τ) 0 W))

theorem slots_start (K : GSem nD τ sig → ℕ) :
    iprop(Recs m K ∗ (∃ f, ((peer c : Thread nD τ).loc cc0_scratch3) ↦{fullShare} f)) ⊢ (Slots c 0 : sProp 𝕄) := by
  unfold Slots
  rw [show min 32 (max 5 (0 + 2)) = 5 from rfl, Ico_bot (by omega), Ico_bot (by omega), Ico_bot (by omega), Ico_bot (by omega), Ico_nil (by omega)]
  iintro ⟨#HR, Hr⟩
  ihave Hr := (r_split (peer c)) $$ Hr
  icases Hr with ⟨H0, H1, H2, H3⟩
  ihave R1 := (Recs_recv m K (peer c) (0 + 1)) $$ HR
  icases R1 with ⟨-, R1⟩
  ihave R2 := (Recs_recv m K (peer c) (0 + 1 + 1)) $$ HR
  icases R2 with ⟨-, R2⟩
  ihave R3 := (Recs_recv m K (peer c) (0 + 1 + 1 + 1)) $$ HR
  icases R3 with ⟨-, R3⟩
  ihave R4 := (Recs_recv m K (peer c) (0 + 1 + 1 + 1 + 1)) $$ HR
  icases R4 with ⟨-, R4⟩
  isplitl [H1]
  · isplitl [H1]; · iexact H1
    iexact R1
  isplitl [H2]
  · isplitl [H2]; · iexact H2
    iexact R2
  isplitl [H3]
  · isplitl [H3]; · iexact H3
    iexact R3
  isplitl [H0]
  · isplitl [H0]
    · iapply (show (iprop(∃ X, rS (peer c) 0 X) : sProp 𝕄) ⊢ iprop(∃ X, rS (peer c) (0 + 1 + 1 + 1 + 1) X) from
        Entails.of_eq (by simp only [rS_congr (F := F) (peer c) (k := 0 + 1 + 1 + 1 + 1) (k' := 0) rfl]))
      iexact H0
    iexact R4
  iempintro

/-- The loop's start, from the first edge chunk on its way. -/
theorem inv_start (K : GSem nD τ sig → ℕ) :
    iprop(Recs m K ∗ levAts L lv ∗ owns (c : Thread nD τ) bM fullShare (Bc m c)
      ∗ Flight EC (c : Thread nD τ) (.dma (sA 1)) 0 NA iprop(aS c 1 (aBlk m c 1) ∗ AL m c)
      ∗ (∃ X, aeS c X) ∗ sv c sAE ∗ (∃ X, aS c 0 X) ∗ sv c (sA 0)
      ∗ (∃ X, pS c 0 X) ∗ (∃ X, pS c 1 X) ∗ sv c (sO 0) ∗ sv c (sO 1) ∗ sv c (sS 0) ∗ sv c (sS 1)
      ∗ (∃ f, ((peer c : Thread nD τ).loc cc0_scratch3) ↦{fullShare} f) ∗ Flight EC (c : Thread nD τ) (.dma sES) 0 NE (peS c (pE0 m c))
      ∗ sv c sOE ∗ (∃ f, ((c : Thread nD τ).loc main_v1) ↦{fullShare} f)
      ∗ cred (tallyAt (eCell c) 0 NE) ∗ atPos ER (eCell c) 0 ∅ 0
      ∗ RSt c 0 ∗ Toks c 0 ∗ (∃ W, owes (c : Thread nD τ) (Ow c 0) W)) ⊢ Inv m c K 0 := by
  unfold Inv ALd OFl SFl PE Ed
  rw [if_pos (by omega), if_pos (by omega), if_pos rfl, if_neg (by omega), if_pos rfl, show 64 + 128 * (0 - 2) = 64 from rfl,
    outR_self, show (give c (0 + 1) : sProp 𝕄) = iprop(emp) from by unfold give; rw [if_neg (by omega), if_neg (by omega)]]
  iintro ⟨#HR, #HL, Hb, HFA, Hae, HvAE, Ha0, HvA, Hp0, Hp1, HvO0, HvO1, HvS0, HvS1, Hr3, HFE, HvOE, ⟨%f, Ho⟩, Hcr, Hat, HRS, HTk, HO⟩
  ihave Ho := (Entails.of_eq (outR_all c f).symm) $$ Ho
  ihave Ho := (outR_split c (a := 0) (b := 64) (d := 4096) (by omega) (by omega) f) $$ Ho
  icases Ho with ⟨Ho0, Ho⟩
  isplitr; · iexact HR
  isplitr; · iexact HL
  isplitl [Hb]; · iexact Hb
  isplitl [HFA Ha0 HvA Hae HvAE]
  · isplitl [HFA]; · iexact HFA
    isplitl [Ha0]; · iexact Ha0
    isplitl [HvA]; · iexact HvA
    isplitl [Hae] <;> iassumption
  isplitl [Hp1 HvO1]
  · isplitl [Hp1] <;> iassumption
  isplitl [Hp0 HvS0]
  · isplitl [Hp0] <;> iassumption
  isplitl [HvS1]; · iexact HvS1
  isplitl [HvO0]; · iexact HvO0
  isplitr; · iempintro
  isplitl [Ho]; · iexists f; iexact Ho
  isplitl [HRS]; · iexact HRS
  isplitr; · iempintro
  isplitl [Hr3]
  · iapply (slots_start m c K)
    isplitr; · iexact HR
    iexact Hr3
  isplitl [HTk]; · iexact HTk
  isplitr; · iempintro
  isplitl [HFE Hcr Hat HvOE Ho0]
  · isplitl [HFE]; · iexact HFE
    isplitl [Hcr]; · iexact Hcr
    isplitl [Hat]; · iexact Hat
    isplitl [HvOE]; · iexact HvOE
    iexists f; iexact Ho0
  iexact HO

/-- The loop's end. -/
abbrev InvEnd : sProp 𝕄 :=
  iprop(owns (c : Thread nD τ) bM fullShare (Bc m c)
    ∗ (Flight EC (c : Thread nD τ) (.dma sAE) 0 NAE iprop(aeS c (aE1 m c) ∗ AL m c) ∗ (∃ X, aS c 31 X) ∗ sv c (sA 31) ∗ (∃ X, aS c 32 X) ∗ sv c (sA 32))
    ∗ Flight EC (c : Thread nD τ) (.dma (sO 32)) 0 NO iprop(outR c (64 + 128 * 29) (64 + 128 * 30) (outV m c) ∗ pS c 30 (sumC m c 30))
    ∗ Flight EC (c : Thread nD τ) (.dma (sS 31)) 0 NR (pS c 31 (part m c 31)) ∗ sv c (sS 32) ∗ sv c (sO 31)
    ∗ outR c 64 (64 + 128 * 29) (outV m c) ∗ (∃ f, outR c (64 + 128 * 30) 4096 f) ∗ RSt c 30
    ∗ ((∃ X, reS (peer c) X) ∗ reached ER (eCell (peer c)) 1)
    ∗ (sv c sES ∗ atPos ER (eCell c) 1 ∅ 0 ∗ Flight EC (c : Thread nD τ) (.dma sOE) 0 NOE iprop(outR c 0 64 (outV m c) ∗ peS c (sE0 m c)))
    ∗ (∃ W, owes (c : Thread nD τ) (Ow c 31) W))
theorem inv_end (K : GSem nD τ sig → ℕ) : Inv m c K 31 ⊢ InvEnd m c := by
  unfold Inv ALd OFl SFl PE Ed InvEnd
  rw [if_neg (by omega), if_neg (by omega), if_neg (by omega), if_pos (by omega), if_neg (by omega)]
  iintro ⟨-, -, H1, H2, H3, H4, H5, H6, H7, H8, H9, -, -, -, H10, H11, H12⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11] <;> iassumption

set_option maxHeartbeats 1000000 in
theorem mid_spec (K : GSem nD τ sig → ℕ) (v5 v6 : BitVec 32) (v23 : FVec F S64x4096 .f32) (h23 : v23 = k0_pay3 (aE0 m c) (Bc m c)) :
    MidIn m c K ⊢ wp frame (wpE defs₀ Variants.none (c : Thread nD τ) none) Set.univ (midP (F := F) c v5 v6 v23) (fun _ => MidOut m c) := by
  generalize hI : MidOut m c = I
  unfold midP
  rw [k0_part4_eq_skeleton]
  unfold k0_part4_skel
  simp only [Prog.lift, Prog.bind_op, Prog.bind_ret, Prog.pure_eq_ret]
  unfold MidIn barPay
  iintro ⟨#HR, #HL, Hb, HFA, Hae, HvAE, Ha0, HvA, Hp0, Hp1, HvO0, HvO1, HvS0, HvS1, ⟨%Xp, Hpe⟩, ⟨Hr3, Hre⟩, HvES, HvOE, Ho, Htk0, Htk1, Hcr, Hat, HRS, HTk, ⟨%W, HO⟩⟩
  iapply (wp_load_all Variants.none c none) $$ Hpe
  iintro Hpe
  iapply (wp_store_all Variants.none c none) $$ Hpe
  iintro Hpe
  ihave Hpe := (show peS c (k0_pay4 v23) ⊢ peS c (pE0 m c) from by subst h23; exact .rfl) $$ Hpe
  ihave HRp := (Recs_edge m K (peer c)) $$ HR
  icases HRp with ⟨-, Hrp⟩
  iapply (st_sendE m Variants.none c none K 0 0 (by omega) (Ow c 0) (O₀ := Ow1 c) rfl (X := pE0 m c)
    (by unfold edgePay; rw [if_pos rfl, peer_peer]) (dev2_eq c) sem_es sem_er) $$ [Hpe Hre HvES HO Htk0 Hrp]
  · isplitr; · iexact HR
    isplitl [Hpe]; · iexact Hpe
    isplitl [Hre]; · iexact Hre
    isplitl [HvES]; · iexact HvES
    isplitl [HO]; · iexact HO
    isplitl [Htk0] <;> iassumption
  iintro ⟨HFE, HO⟩
  iapply (loop_spec m c K v5 v6 v23) $$ [Hb HFA Hae HvAE Ha0 HvA Hp0 Hp1 HvO0 HvO1 HvS0 HvS1 Hr3 HFE HvOE Ho Hcr Hat HRS HTk HO]
  · iapply (inv_start m c K)
    isplitr; · iexact HR
    isplitr; · iexact HL
    isplitl [Hb]; · iexact Hb
    isplitl [HFA]; · iexact HFA
    isplitl [Hae]; · iexact Hae
    isplitl [HvAE]; · iexact HvAE
    isplitl [Ha0]; · iexact Ha0
    isplitl [HvA]; · iexact HvA
    isplitl [Hp0]; · iexact Hp0
    isplitl [Hp1]; · iexact Hp1
    isplitl [HvO0]; · iexact HvO0
    isplitl [HvO1]; · iexact HvO1
    isplitl [HvS0]; · iexact HvS0
    isplitl [HvS1]; · iexact HvS1
    isplitl [Hr3]; · iexact Hr3
    isplitl [HFE]; · iexact HFE
    isplitl [HvOE]; · iexact HvOE
    isplitl [Ho]; · iexact Ho
    isplitl [Hcr]; · iexact Hcr
    isplitl [Hat]; · iexact Hat
    isplitl [HRS]; · iexact HRS
    isplitl [HTk]; · iexact HTk
    iexists _; iexact HO
  iintro HI
  ihave HI := (inv_end m c K) $$ HI
  icases HI with ⟨Hb, ⟨HFA, Ha31, HvA31, Ha32, HvA32⟩, HFO, HFS, HvS32, HvO31, Hod, Hor, HRS, ⟨Hre, Hrp⟩, ⟨HvES, Hat, HFOE⟩, ⟨%W1, HO⟩⟩
  ihave #Hm1 := (mw_local (F := F) c sAE (.inl (by decide)) (k := 31) (by omega)) $$ HL
  iapply (st_wait Variants.none c none (sem₀ := sAE) sem_ae (N := NAE) (by rfl)) $$ [HFA HO]
  · isplitl [HFA]; · iexact HFA
    isplitl [HO]; · iexact HO
    iexact Hm1
  iintro ⟨⟨Hae, HAL⟩, HvAE, ⟨%W2, HO⟩⟩
  ihave #Hm2 := (mw_local (F := F) c sOE (.inl (by decide)) (k := 31) (by omega)) $$ HL
  iapply (st_wait Variants.none c none (sem₀ := sOE) sem_oe (N := NOE) (by rfl)) $$ [HFOE HO]
  · isplitl [HFOE]; · iexact HFOE
    isplitl [HO]; · iexact HO
    iexact Hm2
  iintro ⟨⟨Ho0, Hpe⟩, HvOE, ⟨%W3, HO⟩⟩
  iapply (wp_load_all Variants.none c none) $$ Hae
  iintro Hae
  iapply (wp_load_all Variants.none c none) $$ Hb
  iintro Hb
  iapply (wp_load_all Variants.none c none) $$ Hpe
  iintro Hpe
  iapply (wp_store_all Variants.none c none) $$ Hpe
  iintro Hpe
  iapply (st_sendE m Variants.none c none K 1 32 (by omega) 0 (O₀ := Ow c 31) (Ow_last c) (X := pE1 m c)
    (by unfold edgePay; rw [if_neg (by omega), peer_peer]) (dev4_eq c) sem_es sem_er) $$ [Hpe Hre HvES HO Htk1 Hrp]
  · isplitr; · iexact HR
    isplitl [Hpe]; · iexact Hpe
    isplitl [Hre]; · iexact Hre
    isplitl [HvES]; · iexact HvES
    isplitl [HO]; · iexact HO
    isplitl [Htk1] <;> iassumption
  iintro ⟨HFE, HO⟩
  rw [wp_ret]
  imodintro
  subst hI
  unfold MidOut
  isplitl [Hb]; · iexact Hb
  isplitl [HAL]; · iexact HAL
  isplitl [Hae]; · iexists _; iexact Hae
  isplitl [HvAE]; · iexact HvAE
  isplitl [Ha31]; · iexact Ha31
  isplitl [HvA31]; · iexact HvA31
  isplitl [Ha32]; · iexact Ha32
  isplitl [HvA32]; · iexact HvA32
  isplitl [HFO]; · iexact HFO
  isplitl [HFS]; · iexact HFS
  isplitl [HvS32]; · iexact HvS32
  isplitl [HvO31]; · iexact HvO31
  isplitl [Ho0 Hod]
  · iapply (outR_join c (a := 0) (b := 64) (d := 64 + 128 * 29) (by omega) (by omega) (outV m c))
    isplitl [Ho0] <;> iassumption
  isplitl [Hor]; · iexact Hor
  isplitl [HRS]; · iexact HRS
  isplitl [Hat]; · iexact Hat
  isplitl [HvOE]; · iexact HvOE
  isplitl [HFE]; · iexact HFE
  iexists _; iexact HO

end Cert.Proof.MM

end
-- ==== Proof.Tail.lean ====
/-
  After the loop: the last chunk received and summed, the last edge chunk, both on their way to the result.
-/
module

public import proofs.«01_k».proof.Proof.State

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

abbrev lastP (v5 v6 v : BitVec 32) : Prog (TpuEff nD τ sig (Elt F) Λ₀ .tc) (Σ' (v68 : BitVec 32) (v71 : FVec F S128x4096 .f32), FVec F S128x4096 .f32) :=
  k0_part5 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v5 v6 v
abbrev endP (v5 v6 v68 : BitVec 32) (v71 v75 : FVec F S128x4096 .f32) : Prog (TpuEff nD τ sig (Elt F) Λ₀ .tc) PUnit :=
  k0_part6 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 v5 v6 v68 v71 v75

theorem off1_31 : k0_off1 31#32 = ![31 % 2] := by decide
theorem off1_30 : k0_off1 30#32 = ![32 % 2] := by decide
theorem off26_31 : k0_off26 31#32 = ![31 % 2, 0, 0] := by decide
theorem off24_31 : k0_off24 = ![31 % 4] := k0_off24_eq
theorem off27_31 : k0_off27 = ![31 % 2, 0, 0] := k0_off27_eq
theorem off28_31 : k0_off28 = ![31 % 4, 0, 0] := k0_off28_eq

set_option maxHeartbeats 1000000 in
theorem last_spec (K : GSem nD τ sig → ℕ) (v5 v6 v : BitVec 32) :
    iprop(Recs m K ∗ RSt c 30 ∗ Flight EC (c : Thread nD τ) (.dma (sS 31)) 0 NR (pS c 31 (part m c 31)) ∗ (∃ W, owes (c : Thread nD τ) 0 W))
      ⊢ wp frame (wpE defs₀ Variants.none (c : Thread nD τ) none) Set.univ (lastP (F := F) v5 v6 v)
          (fun r => iprop(⌜r.2.1 = k0_pay8 (part m c 31) ∧ r.2.2 = k0_pay9 (part m (peer c) 31)⌝ ∗ RSt c 31 ∗ pS c 31 (part m c 31) ∗ sv c (sS 31)
            ∗ (∃ W, owes (c : Thread nD τ) 0 W))) := by
  generalize hI : (fun r : (Σ' (v68 : BitVec 32) (v71 : FVec F S128x4096 .f32), FVec F S128x4096 .f32) =>
    (iprop(⌜r.2.1 = k0_pay8 (part m c 31) ∧ r.2.2 = k0_pay9 (part m (peer c) 31)⌝ ∗ RSt c 31 ∗ pS c 31 (part m c 31) ∗ sv c (sS 31)
            ∗ (∃ W, owes (c : Thread nD τ) 0 W)) : sProp 𝕄)) = I
  unfold lastP
  rw [k0_part5_eq_skeleton]
  unfold k0_part5_skel
  simp only [Prog.lift, Prog.bind_op, Prog.bind_ret, Prog.pure_eq_ret]
  iintro ⟨#HR, HRS, HF, ⟨%W, HO⟩⟩
  ihave HRS := (RSt_take (F := F) c (n := 30) (by omega)) $$ HRS
  icases HRS with ⟨Hcr, Hat, HRS⟩
  iapply (st_recv m Variants.none c none K (j := 31) (by omega) (by omega) (sem_r off24_31 _ _) (by rfl)) $$ [Hcr HO Hat]
  · isplitr; · iexact HR
    isplitl [Hcr]; · iexact Hcr
    isplitl [HO]; · iexact HO
    isplitr; · rw [MayWait_zero]; iempintro
    iexact Hat
  iintro ⟨⟨%W2, HO⟩, Hat, Hrr, Hr, -⟩
  iapply (st_wait Variants.none c none (sem₀ := sS 31) (sem_s off1_31 _ _) (N := NR) NR_send) $$ [HF HO]
  · isplitl [HF]; · iexact HF
    isplitl [HO]; · iexact HO
    rw [MayWait_zero]; iempintro
  iintro ⟨Hp, Hvs, HO⟩
  iapply (wp_load_win Variants.none c none off27_31) $$ Hp
  iintro Hp
  iapply (wp_load_win Variants.none c none off28_31) $$ Hr
  iintro Hr
  ihave HGK := (own_give c (t := 31) (by omega) (by omega) (part m (peer c) 31)) $$ [Hr Hrr]
  · isplitl [Hr] <;> iassumption
  icases HGK with ⟨-, HK⟩
  rw [wp_ret]
  imodintro
  subst hI
  isplitr
  · ipureintro; exact ⟨rfl, rfl⟩
  isplitl [HRS Hat HK]
  · iapply HRS
    isplitl [Hat] <;> iassumption
  isplitl [Hp]; · iexact Hp
  isplitl [Hvs]; · iexact Hvs
  iexact HO

/-- What the end takes and what it leaves. -/
def EndIn (K : GSem nD τ sig → ℕ) : sProp 𝕄 :=
  iprop(Recs m K ∗ pS c 31 (part m c 31) ∗ sv c (sO 31) ∗ (∃ f, outR c (64 + 128 * 30) 4096 f) ∗ cred (tallyAt (eCell c) 32 NE) ∗ atPos ER (eCell c) 1 ∅ 0
    ∗ Flight EC (c : Thread nD τ) (.dma sES) 0 NE (peS c (pE1 m c)) ∗ sv c sOE ∗ (∃ W, owes (c : Thread nD τ) 0 W))
def EndOut : sProp 𝕄 :=
  iprop(Flight EC (c : Thread nD τ) (.dma (sO 31)) 0 NO iprop(outR c (64 + 128 * 30) (64 + 128 * 31) (outV m c) ∗ pS c 31 (sumC m c 31))
    ∗ Flight EC (c : Thread nD τ) (.dma sOE) 0 NOE iprop(outR c (64 + 128 * 31) 4096 (outV m c) ∗ peS c (sE1 m c))
    ∗ atPos ER (eCell c) 2 ∅ 0 ∗ (∃ X, reS c X) ∗ sv c sES ∗ (∃ W, owes (c : Thread nD τ) 0 W))

set_option maxHeartbeats 1000000 in
theorem end_spec (K : GSem nD τ sig → ℕ) (v5 v6 v68 : BitVec 32) (v71 v75 : FVec F S128x4096 .f32) (h1 : v71 = k0_pay8 (part m c 31)) (h2 : v75 = k0_pay9 (part m (peer c) 31)) :
    EndIn m c K ⊢ wp frame (wpE defs₀ Variants.none (c : Thread nD τ) none) Set.univ (endP (F := F) v5 v6 v68 v71 v75) (fun _ => EndOut m c) := by
  generalize hI : EndOut m c = I
  unfold endP
  rw [k0_part6_eq_skeleton]
  unfold k0_part6_skel
  simp only [Prog.lift, Prog.bind_op, Prog.bind_ret, Prog.pure_eq_ret]
  unfold EndIn
  iintro ⟨#HR, Hp, HvO, ⟨%f, Ho⟩, Hcr, Hat, HF, HvOE, ⟨%W, HO⟩⟩
  iapply (wp_load_win Variants.none c none off27_31) $$ Hp
  iintro Hp
  iapply (wp_store_win Variants.none c none off27_31) $$ Hp
  iintro Hp
  ihave Hp := (show pS c 31 (k0_pay10 v71 v75) ⊢ pS c 31 (sumC m c 31) from by subst h1; subst h2; exact .rfl) $$ Hp
  ihave Ho := (outR_split c (a := 64 + 128 * 30) (b := 64 + 128 * 31) (d := 4096) (by omega) (by omega) f) $$ Ho
  icases Ho with ⟨Ho, Ho1⟩
  iapply (st_copy Variants.none c none (sem_o off1_31 _ _) NO (by rfl) NO_pos (pS c 31 (sumC m c 31)) (outR c (64 + 128 * 30) (64 + 128 * 31) f)
      (outR c (64 + 128 * 30) (64 + 128 * 31) (outV m c))
      (p_win c off26_31 _ _ fullShare (sumC m c 31))
      (o_win c (a := 64 + 128 * 30) (b := 64 + 128 * 31) rfl _ rfl rfl f)
      (by rw [← out_chunk m c (k := 31) (by omega) (by omega) rfl inb_S4096x4096_S128x4096_3904_0]
          exact o_win c (a := 64 + 128 * 30) (b := 64 + 128 * 31) rfl _ rfl rfl (outV m c))) $$ [Hp Ho HvO]
  · isplitl [Hp]; · iexact Hp
    isplitl [Ho] <;> iassumption
  iintro HFO
  iapply (st_recvE m Variants.none c none K 1 32 (by omega) sem_er (by rfl)) $$ [Hcr HO Hat]
  · isplitr; · iexact HR
    isplitl [Hcr]; · iexact Hcr
    isplitl [HO]; · iexact HO
    isplitr; · rw [MayWait_zero]; iempintro
    iexact Hat
  iintro ⟨⟨%W2, HO⟩, Hat, -, Hre⟩
  ihave Hre := (show edgePay m c 1 ⊢ reS c (pE1 m (peer c)) from by unfold edgePay; rw [if_neg (by omega)]) $$ Hre
  iapply (st_wait Variants.none c none (sem₀ := sES) sem_es (N := NE) (by rfl)) $$ [HF HO]
  · isplitl [HF]; · iexact HF
    isplitl [HO]; · iexact HO
    rw [MayWait_zero]; iempintro
  iintro ⟨Hpe, Hvs, HO⟩
  iapply (wp_load_all Variants.none c none) $$ Hpe
  iintro Hpe
  iapply (wp_load_all Variants.none c none) $$ Hre
  iintro Hre
  iapply (wp_load_all Variants.none c none) $$ Hpe
  iintro Hpe
  iapply (wp_store_all Variants.none c none) $$ Hpe
  iintro Hpe
  iapply (st_copy Variants.none c none sem_oe NOE (by rfl) NOE_pos (peS c (sE1 m c)) (outR c (64 + 128 * 31) 4096 f) (outR c (64 + 128 * 31) 4096 (outV m c)) rfl
      (o_win c (a := 64 + 128 * 31) (b := 4096) rfl _ rfl rfl f)
      (by rw [← out_edge1 m c inb_S4096x4096_S64x4096_4032_0]; exact o_win c (a := 64 + 128 * 31) (b := 4096) rfl _ rfl rfl (outV m c))) $$ [Hpe Ho1 HvOE]
  · isplitl [Hpe]; · iexact Hpe
    isplitl [Ho1] <;> iassumption
  iintro HFE
  rw [wp_ret]
  imodintro
  subst hI
  unfold EndOut
  isplitl [HFO]; · iexact HFO
  isplitl [HFE]; · iexact HFE
  isplitl [Hat]; · iexact Hat
  isplitl [Hre]; · iexists _; iexact Hre
  isplitl [Hvs]; · iexact Hvs
  iexact HO

end Cert.Proof.MM

end
-- ==== Proof.Body.lean ====
/-
  The whole body of the kernel on a device: what it takes and what it leaves.
-/
module

public import proofs.«01_k».proof.Proof.Head
public import proofs.«01_k».proof.Proof.Mid
public import proofs.«01_k».proof.Proof.Tail

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

/-- A scratch buffer at some contents. -/
abbrev scr (b : Ref sig .tc) : sProp 𝕄 := iprop(∃ f, ((c : Thread nD τ).loc b) ↦{fullShare} f)
/-- The scratch buffers. -/
abbrev Scr : sProp 𝕄 :=
  iprop(scr c cc0_scratch0 ∗ scr c cc0_scratch1 ∗ scr c cc0_scratch2 ∗ scr c cc0_scratch3 ∗ scr c cc0_scratch4 ∗ scr c cc0_scratch5 ∗ scr c cc0_scratch6)
/-- The counters of the device's own copies, at zero. -/
abbrev Svs : sProp 𝕄 :=
  iprop(sv c sB ∗ sv c (sA 0) ∗ sv c (sA 1) ∗ sv c sAE ∗ sv c (sO 0) ∗ sv c (sO 1) ∗ sv c sOE ∗ sv c (sS 0) ∗ sv c (sS 1) ∗ sv c sES)
/-- The counters of its shared cells, at zero. -/
abbrev Svr : sProp 𝕄 := iprop(sv c (sR 0) ∗ sv c (sR 1) ∗ sv c (sR 2) ∗ sv c (sR 3) ∗ sv c sER)

/-- What the device holds of the shared cells at the start. -/
def Shared : sProp 𝕄 :=
  iprop(dutyTok ER (barCell (peer c)) 0 () ∗ cred (tallyAt (barCell c) 0 1) ∗ atPos ER (barCell c) 0 ∅ 0
    ∗ dutyTok ER (eCell (peer c)) 0 () ∗ dutyTok ER (eCell (peer c)) 1 () ∗ cred (tallyAt (eCell c) 0 NE) ∗ cred (tallyAt (eCell c) 32 NE) ∗ atPos ER (eCell c) 0 ∅ 0
    ∗ RSt c 0 ∗ Toks c 0)

def BodyIn (K : GSem nD τ sig → ℕ) : sProp 𝕄 :=
  iprop(Recs m K ∗ levAts L lv ∗ (((c : Thread nD τ).loc main_arg0) ↦{fullShare} (Ac m c)) ∗ (((c : Thread nD τ).loc main_arg1) ↦{fullShare} (Bc m c))
    ∗ scr c main_v1 ∗ Scr c ∗ Svs c ∗ Shared c ∗ (∃ W, owes (c : Thread nD τ) (O₀ c) W))
def BodyOut : sProp 𝕄 :=
  iprop((((c : Thread nD τ).loc main_arg0) ↦{fullShare} (Ac m c)) ∗ (((c : Thread nD τ).loc main_arg1) ↦{fullShare} (Bc m c))
    ∗ (((c : Thread nD τ).loc main_v1) ↦{fullShare} (outV m c)) ∗ Scr c ∗ Svs c ∗ Svr c ∗ semVal (barCell c) 0 ∗ (∃ W, owes (c : Thread nD τ) 0 W))

theorem scr_of {b : Ref sig .tc} : (iprop(∃ X : b.ty.Contents (Elt F), owns (c : Thread nD τ) (Memref.whole b) fullShare X) : sProp 𝕄) ⊢ scr c b :=
  Entails.of_eq (whole_ex c b).symm
theorem of_scr {b : Ref sig .tc} : scr c b ⊢ (iprop(∃ X : b.ty.Contents (Elt F), owns (c : Thread nD τ) (Memref.whole b) fullShare X) : sProp 𝕄) :=
  Entails.of_eq (whole_ex c b)

/-- The receive cells and the edge cell are closed, their counters at zero; the slots are one buffer again. -/
theorem close_cells (K : GSem nD τ sig → ℕ) :
    iprop(Recs m K ∗ RSt c 31 ∗ atPos ER (eCell c) 2 ∅ 0 ∗ atPos ER (barCell c) 1 ∅ 0)
      ⊢ (iprop(|={Set.univ}=> iprop(Svr c ∗ semVal (barCell c) 0 ∗ scr c cc0_scratch3)) : sProp 𝕄) := by
  unfold RSt
  rw [Ico_nil (a := 31 + 1) (b := 32) (by omega), Ico_bot (a := 28) (by omega), Ico_bot (a := 28 + 1) (by omega), Ico_bot (a := 28 + 1 + 1) (by omega),
    Ico_bot (a := 28 + 1 + 1 + 1) (by omega), Ico_nil (by omega)]
  iintro ⟨#HR, ⟨-, H0, H1, H2, H3, ⟨R0, R1, R2, R3, -⟩⟩, He, Hb⟩
  ihave HI0 := (Recs_recv m K c 32) $$ HR
  icases HI0 with ⟨HI0, -⟩
  ihave HI1 := (Recs_recv m K c 33) $$ HR
  icases HI1 with ⟨HI1, -⟩
  ihave HI2 := (Recs_recv m K c 34) $$ HR
  icases HI2 with ⟨HI2, -⟩
  ihave HI3 := (Recs_recv m K c 35) $$ HR
  icases HI3 with ⟨HI3, -⟩
  ihave HIe := (Recs_edge m K c) $$ HR
  icases HIe with ⟨HIe, -⟩
  ihave HIb := (Recs_bar m K c) $$ HR
  icases HIb with ⟨HIb, -⟩
  imod (Rounds.cell_close ER (Rd m) (Set.mem_univ (K (rCell c 32))) (fun h => h) (R := rnd 32) (later_recv m c 32 (by omega))) $$ [HI0 H0] with Z0
  · isplitl [HI0]; · iexact HI0
    iexact H0
  imod (Rounds.cell_close ER (Rd m) (Set.mem_univ (K (rCell c 33))) (fun h => h) (R := rnd 33) (later_recv m c 33 (by omega))) $$ [HI1 H1] with Z1
  · isplitl [HI1]; · iexact HI1
    iexact H1
  imod (Rounds.cell_close ER (Rd m) (Set.mem_univ (K (rCell c 34))) (fun h => h) (R := rnd 34) (later_recv m c 34 (by omega))) $$ [HI2 H2] with Z2
  · isplitl [HI2]; · iexact HI2
    iexact H2
  imod (Rounds.cell_close ER (Rd m) (Set.mem_univ (K (rCell c 35))) (fun h => h) (R := rnd 35) (later_recv m c 35 (by omega))) $$ [HI3 H3] with Z3
  · isplitl [HI3]; · iexact HI3
    iexact H3
  imod (Rounds.cell_close ER (Rd m) (Set.mem_univ (K (eCell c))) (fun h => h) (R := 2) (later_edge m c)) $$ [HIe He] with Ze
  · isplitl [HIe]; · iexact HIe
    iexact He
  imod (Rounds.cell_close ER (Rd m) (Set.mem_univ (K (barCell c))) (fun h => h) (R := 1) (later_bar m c)) $$ [HIb Hb] with Zb
  · isplitl [HIb]; · iexact HIb
    iexact Hb
  imodintro
  isplitl [Z0 Z1 Z2 Z3 Ze]
  · isplitl [Z0]
    · iapply (Entails.of_eq (sv_congr (F := F) c (sR_congr (k := 32) (k' := 0) rfl))); iexact Z0
    isplitl [Z1]
    · iapply (Entails.of_eq (sv_congr (F := F) c (sR_congr (k := 33) (k' := 1) rfl))); iexact Z1
    isplitl [Z2]
    · iapply (Entails.of_eq (sv_congr (F := F) c (sR_congr (k := 34) (k' := 2) rfl))); iexact Z2
    isplitl [Z3]
    · iapply (Entails.of_eq (sv_congr (F := F) c (sR_congr (k := 35) (k' := 3) rfl))); iexact Z3
    iexact Ze
  isplitl [Zb]; · iexact Zb
  iapply (r_join c)
  isplitl [R0]
  · iapply (show (iprop(∃ X, rS c 28 X) : sProp 𝕄) ⊢ iprop(∃ X, rS c 0 X) from Entails.of_eq (by simp only [rS_congr (F := F) c (k := 28) (k' := 0) rfl])); iexact R0
  isplitl [R1]
  · iapply (show (iprop(∃ X, rS c (28 + 1) X) : sProp 𝕄) ⊢ iprop(∃ X, rS c 1 X) from Entails.of_eq (by simp only [rS_congr (F := F) c (k := 28 + 1) (k' := 1) rfl])); iexact R1
  isplitl [R2]
  · iapply (show (iprop(∃ X, rS c (28 + 1 + 1) X) : sProp 𝕄) ⊢ iprop(∃ X, rS c 2 X) from Entails.of_eq (by simp only [rS_congr (F := F) c (k := 28 + 1 + 1) (k' := 2) rfl])); iexact R2
  iapply (show (iprop(∃ X, rS c (28 + 1 + 1 + 1) X) : sProp 𝕄) ⊢ iprop(∃ X, rS c 3 X) from Entails.of_eq (by simp only [rS_congr (F := F) c (k := 28 + 1 + 1 + 1) (k' := 3) rfl])); iexact R3

set_option maxHeartbeats 1000000 in
theorem body_spec (K : GSem nD τ sig → ℕ) (t : Fin cfg0.N) :
    BodyIn m c K ⊢ wp frame (wpE defs₀ Variants.none (c : Thread nD τ) none) Set.univ (bodyAt0 (F := F) t) (fun _ => BodyOut m c) := by
  generalize hI : BodyOut m c = I
  unfold bodyAt0
  rw [cc0_body_eq_skeleton]
  unfold cc0_body_skel
  rw [wp_bind]
  unfold BodyIn Shared
  iintro ⟨#HR, #HL, HA, HB, Ho, ⟨Hs0, Hs1, Hs2, Hs3, Hs4, Hs5, Hs6⟩, ⟨HvB, HvA0, HvA1, HvAE, HvO0, HvO1, HvOE, HvS0, HvS1, HvES⟩, ⟨HtB, HcB, HaB, HtE0, HtE1, HcE0, HcE1, HaE, HRS, HTk⟩, HO⟩
  ihave Hs0 := (of_scr c) $$ Hs0
  ihave Hs4 := (of_scr c) $$ Hs4
  ihave Hs5 := (of_scr c) $$ Hs5
  ihave Hs6 := (of_scr c) $$ Hs6
  ihave Ha := (a_split c) $$ Hs1
  icases Ha with ⟨Ha0, Ha1⟩
  ihave Hp := (p_split c) $$ Hs2
  icases Hp with ⟨Hp0, Hp1⟩
  ihave HW := (head_spec m c K) $$ [HA HB Hs0 Ha1 Hs4 Hs3 Hs6 HvB HvA1 HvAE HtB HcB HaB HO]
  · unfold HeadIn
    isplitr; · iexact HR
    isplitr; · iexact HL
    isplitl [HA]; · iexact HA
    isplitl [HB]; · iexact HB
    isplitl [Hs0]; · iexact Hs0
    isplitl [Ha1]; · iexact Ha1
    isplitl [Hs4]; · iexact Hs4
    isplitl [Hs3]; · iexact Hs3
    isplitl [Hs6]; · iexact Hs6
    isplitl [HvB]; · iexact HvB
    isplitl [HvA1]; · iexact HvA1
    isplitl [HvAE]; · iexact HvAE
    isplitl [HtB]; · iexact HtB
    isplitl [HcB]; · iexact HcB
    isplitl [HaB]; · iexact HaB
    iexact HO
  iapply (wp_wand frame (wpE defs₀ Variants.none (c : Thread nD τ) none) Set.univ) $$ HW
  iintro %r ⟨%hr, HQ⟩
  obtain ⟨d0, v5, v6, v23⟩ := r
  obtain ⟨hd, h23⟩ := hr
  dsimp only at hd h23
  subst d0
  dsimp only
  rw [wp_bind]
  unfold HeadOut
  icases HQ with ⟨HAR, HB, Hb, HFA, Hae, HvB, HvAE, Hbp, HaB, HO⟩
  ihave HW := (mid_spec m c K v5 v6 v23 h23) $$ [Hb HFA Hae HvAE Ha0 HvA0 Hp0 Hp1 HvO0 HvO1 HvS0 HvS1 Hs5 Hbp HvES HvOE Ho HtE0 HtE1 HcE0 HaE HRS HTk HO]
  · unfold MidIn
    isplitr; · iexact HR
    isplitr; · iexact HL
    isplitl [Hb]; · iexact Hb
    isplitl [HFA]; · iexact HFA
    isplitl [Hae]; · iexact Hae
    isplitl [HvAE]; · iexact HvAE
    isplitl [Ha0]; · iexact Ha0
    isplitl [HvA0]; · iexact HvA0
    isplitl [Hp0]; · iexact Hp0
    isplitl [Hp1]; · iexact Hp1
    isplitl [HvO0]; · iexact HvO0
    isplitl [HvO1]; · iexact HvO1
    isplitl [HvS0]; · iexact HvS0
    isplitl [HvS1]; · iexact HvS1
    isplitl [Hs5]; · iexact Hs5
    isplitl [Hbp]; · iexact Hbp
    isplitl [HvES]; · iexact HvES
    isplitl [HvOE]; · iexact HvOE
    isplitl [Ho]; · iexact Ho
    isplitl [HtE0]; · iexact HtE0
    isplitl [HtE1]; · iexact HtE1
    isplitl [HcE0]; · iexact HcE0
    isplitl [HaE]; · iexact HaE
    isplitl [HRS]; · iexact HRS
    isplitl [HTk]; · iexact HTk
    iexact HO
  iapply (wp_wand frame (wpE defs₀ Variants.none (c : Thread nD τ) none) Set.univ) $$ HW
  iintro %v HQ
  rw [wp_bind]
  unfold MidOut
  icases HQ with ⟨Hb, HAL, Hae, HvAE, Ha31, HvA31, Ha32, HvA32, HFO, HFS, HvS32, HvO31, Hod, Hor, HRS, HaE, HvOE, HFE, HO⟩
  ihave HW := (last_spec m c K v5 v6 v) $$ [HRS HFS HO]
  · isplitr; · iexact HR
    isplitl [HRS]; · iexact HRS
    isplitl [HFS] <;> iassumption
  iapply (wp_wand frame (wpE defs₀ Variants.none (c : Thread nD τ) none) Set.univ) $$ HW
  iintro %r2 ⟨%hr2, HRS, Hp, HvS31, HO⟩
  obtain ⟨v68, v71, v75⟩ := r2
  obtain ⟨h71, h75⟩ := hr2
  dsimp only at h71 h75
  dsimp only
  rw [wp_bind]
  ihave HW := (end_spec m c K v5 v6 v68 v71 v75 h71 h75) $$ [Hp HvO31 Hor HcE1 HaE HFE HvOE HO]
  · unfold EndIn
    isplitr; · iexact HR
    isplitl [Hp]; · iexact Hp
    isplitl [HvO31]; · iexact HvO31
    isplitl [Hor]; · iexact Hor
    isplitl [HcE1]; · iexact HcE1
    isplitl [HaE]; · iexact HaE
    isplitl [HFE]; · iexact HFE
    isplitl [HvOE]; · iexact HvOE
    iexact HO
  iapply (wp_wand frame (wpE defs₀ Variants.none (c : Thread nD τ) none) Set.univ) $$ HW
  iintro %u HQ
  unfold EndOut
  icases HQ with ⟨HF31, HFOE, HaE, Hre, HvES, ⟨%W, HO⟩⟩
  simp only [Prog.lift, Prog.bind_op, Prog.bind_ret, Prog.pure_eq_ret]
  iapply (st_wait Variants.none c none (sem₀ := sO 32) (sem_o off1_30 _ _) (N := NO) (by rfl)) $$ [HFO HO]
  · isplitl [HFO]; · iexact HFO
    isplitl [HO]; · iexact HO
    rw [MayWait_zero]; iempintro
  iintro ⟨⟨Ho30, Hp30⟩, HvO32, ⟨%W1, HO⟩⟩
  iapply (st_wait Variants.none c none (sem₀ := sO 31) (sem_o off1_31 _ _) (N := NO) (by rfl)) $$ [HF31 HO]
  · isplitl [HF31]; · iexact HF31
    isplitl [HO]; · iexact HO
    rw [MayWait_zero]; iempintro
  iintro ⟨⟨Ho31, Hp31⟩, HvO31, ⟨%W2, HO⟩⟩
  iapply (st_wait Variants.none c none (sem₀ := sOE) sem_oe (N := NOE) (by rfl)) $$ [HFOE HO]
  · isplitl [HFOE]; · iexact HFOE
    isplitl [HO]; · iexact HO
    rw [MayWait_zero]; iempintro
  iintro ⟨⟨HoE, Hpe⟩, HvOE, HO⟩
  rw [wp_ret]
  imod (close_cells m c K) $$ [HRS HaE HaB] with ⟨HSr, HvBar, Hs3⟩
  · isplitr; · iexact HR
    isplitl [HRS]; · iexact HRS
    isplitl [HaE] <;> iassumption
  imodintro
  subst hI
  unfold BodyOut
  isplitl [HAL HAR]
  · iapply (pointsTo_share (PosShare.mem_left_op_right fullShare)).2
    isplitl [HAL] <;> iassumption
  isplitl [HB]; · iexact HB
  isplitl [Hod Ho30 Ho31 HoE]
  · iapply (Entails.of_eq (outR_all c (outV m c)))
    iapply (outR_join c (a := 0) (b := 64 + 128 * 29) (d := 4096) (by omega) (by omega) (outV m c))
    isplitl [Hod]; · iexact Hod
    iapply (outR_join c (a := 64 + 128 * 29) (b := 64 + 128 * 30) (d := 4096) (by omega) (by omega) (outV m c))
    isplitl [Ho30]; · iexact Ho30
    iapply (outR_join c (a := 64 + 128 * 30) (b := 64 + 128 * 31) (d := 4096) (by omega) (by omega) (outV m c))
    isplitl [Ho31] <;> iassumption
  isplitl [Hb Ha31 Ha32 Hp30 Hp31 Hs3 Hae Hpe Hre]
  · isplitl [Hb]
    · iapply (scr_of c (b := cc0_scratch0)); iexists _; iexact Hb
    isplitl [Ha31 Ha32]
    · iapply (a_join c)
      isplitl [Ha32]
      · iapply (show (iprop(∃ X, aS c 32 X) : sProp 𝕄) ⊢ iprop(∃ X, aS c 0 X) from Entails.of_eq (by simp only [aS_congr (F := F) c (k := 32) (k' := 0) rfl])); iexact Ha32
      · iapply (show (iprop(∃ X, aS c 31 X) : sProp 𝕄) ⊢ iprop(∃ X, aS c 1 X) from Entails.of_eq (by simp only [aS_congr (F := F) c (k := 31) (k' := 1) rfl])); iexact Ha31
    isplitl [Hp30 Hp31]
    · iapply (p_join c)
      isplitl [Hp30]
      · iexists (sumC m c 30)
        iapply (Entails.of_eq (pS_congr (F := F) c (k := 30) (k' := 0) rfl _)); iexact Hp30
      · iexists (sumC m c 31)
        iapply (Entails.of_eq (pS_congr (F := F) c (k := 31) (k' := 1) rfl _)); iexact Hp31
    isplitl [Hs3]; · iexact Hs3
    isplitl [Hae]
    · iapply (scr_of c (b := cc0_scratch4)); iexact Hae
    isplitl [Hpe]
    · iapply (scr_of c (b := cc0_scratch5)); iexists _; iexact Hpe
    iapply (scr_of c (b := cc0_scratch6)); iexact Hre
  isplitl [HvB HvA31 HvA32 HvAE HvO31 HvO32 HvOE HvS31 HvS32 HvES]
  · isplitl [HvB]; · iexact HvB
    isplitl [HvA32]
    · iapply (Entails.of_eq (sv_congr (F := F) c (sA_congr (k := 32) (k' := 0) rfl))); iexact HvA32
    isplitl [HvA31]
    · iapply (Entails.of_eq (sv_congr (F := F) c (sA_congr (k := 31) (k' := 1) rfl))); iexact HvA31
    isplitl [HvAE]; · iexact HvAE
    isplitl [HvO32]
    · iapply (Entails.of_eq (sv_congr (F := F) c (sO_congr (k := 32) (k' := 0) rfl))); iexact HvO32
    isplitl [HvO31]
    · iapply (Entails.of_eq (sv_congr (F := F) c (sO_congr (k := 31) (k' := 1) rfl))); iexact HvO31
    isplitl [HvOE]; · iexact HvOE
    isplitl [HvS32]
    · iapply (Entails.of_eq (sv_congr (F := F) c (sS_congr (k := 32) (k' := 0) rfl))); iexact HvS32
    isplitl [HvS31]
    · iapply (Entails.of_eq (sv_congr (F := F) c (sS_congr (k := 31) (k' := 1) rfl))); iexact HvS31
    iexact HvES
  isplitl [HSr]; · iexact HSr
  isplitl [HvBar]; · iexact HvBar
  iexact HO

end Cert.Proof.MM

end
-- ==== Proof.Launch.lean ====
module

public import proofs.«01_k».proof.Proof.Body
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.Proof.MM

open Cert.KernelIdeal Cert.KernelIdeal.Gen
open Cert.Proof.Rules
open Idealize.ShloMosaic Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ) (c : Dev nD)

variable (ρ : Dev nD → PrngReg)

open Idealize.ShloMosaic.Pipeline (Dat BodyObligation)

/-! ## The program's data -/

/-- What the launch's own step makes for a device: the records, its counters, its places and the tokens of the duties it does. -/
def Lin : sProp 𝕄 :=
  iprop(Svs c ∗ (atPos ER (barCell c) 0 ∅ 0 ∗ atPos ER (rCell c 1) 0 ∅ 0 ∗ atPos ER (rCell c 2) 0 ∅ 0 ∗ atPos ER (rCell c 3) 0 ∅ 0 ∗ atPos ER (rCell c 4) 0 ∅ 0
      ∗ atPos ER (eCell c) 0 ∅ 0)
    ∗ dutyTok ER (barCell (peer c)) 0 () ∗ Toks c 0 ∗ dutyTok ER (eCell (peer c)) 0 () ∗ dutyTok ER (eCell (peer c)) 1 ())
def G' : sProp 𝕄 := iprop(∃ K, Recs m K ∗ Lin c)

def Creds : sProp 𝕄 :=
  iprop((bigSep (Finset.Ico 1 32) fun k => cred (tallyAt (rCell c k) k NR)) ∗ cred (tallyAt (eCell c) 32 NE) ∗ cred (tallyAt (eCell c) 0 NE) ∗ cred (tallyAt (barCell c) 0 1))

def Start : sProp 𝕄 :=
  iprop(G' m c ∗ Creds c ∗ levAts L lv ∗ (((c : Thread nD τ).loc main_arg0) ↦{fullShare} (Ac m c)) ∗ (((c : Thread nD τ).loc main_arg1) ↦{fullShare} (Bc m c)) ∗ scr c main_v1)
def Φ₀ : sProp 𝕄 := iprop(Start m c ∗ Scr c)
def Φ₁ : sProp 𝕄 :=
  iprop((((c : Thread nD τ).loc main_arg0) ↦{fullShare} (Ac m c)) ∗ (((c : Thread nD τ).loc main_arg1) ↦{fullShare} (Bc m c))
    ∗ (((c : Thread nD τ).loc main_v1) ↦{fullShare} (outV m c)) ∗ Scr c ∗ Svs c ∗ Svr c ∗ semVal (barCell c) 0)

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem start_in (K : GSem nD τ sig → ℕ) : iprop(Lin c ∗ Creds c) ⊢ (iprop(Svs c ∗ Shared c) : sProp 𝕄) := by
  unfold Lin Creds Shared RSt
  rw [Ico_nil (a := 28) (b := 0 + 1) (by omega)]
  iintro ⟨⟨HS, ⟨Hb, H1, H2, H3, H4, He⟩, Tb, TR, T0, T1⟩, ⟨CR, C32, C0, CB⟩⟩
  isplitl [HS]; · iexact HS
  isplitl [Tb]; · iexact Tb
  isplitl [CB]; · iexact CB
  isplitl [Hb]; · iexact Hb
  isplitl [T0]; · iexact T0
  isplitl [T1]; · iexact T1
  isplitl [C0]; · iexact C0
  isplitl [C32]; · iexact C32
  isplitl [He]; · iexact He
  isplitr [TR]
  · isplitl [CR]; · iexact CR
    isplitl [H1]; · iexact H1
    isplitl [H2]; · iexact H2
    isplitl [H3]; · iexact H3
    isplitl [H4]; · iexact H4
    iempintro
  iexact TR

theorem body_obligation (c : Dev nD) : BodyObligation (dats (F := F) m 0 c) (defs₀ (F := F)) Variants.none 0 Set.univ := fun t => by
  rw [fin_N0 t]
  show iprop(Φ₀ m c ∗ (dats m 0 c).owesAt 0 t0_0.castSucc ∗ bigSep Finset.univ _) ⊢ wp frame (wpE (defs₀ (F := F)) Variants.none (c : Thread nD τ) none) Set.univ (bodyAt0 t0_0)
    (fun _ => iprop(Φ₁ m c ∗ (dats m 0 c).owesAt 0 t0_0.succ ∗ bigSep Finset.univ _))
  unfold Φ₀ Start G' Dat.owesAt Pipeline.owesWithin
  rw [show (dats (F := F) m 0 c).owed t0_0.castSucc = O₀ c from rfl, show (dats (F := F) m 0 c).owed t0_0.succ = 0 from rfl]
  iintro ⟨⟨⟨⟨%K, #HR, Hl⟩, Hc, #HL, HA, HB, HO⟩, Hs⟩, ⟨%W, -, Hw⟩, He⟩
  ihave HS := (start_in (F := F) c K) $$ [Hl Hc]
  · isplitl [Hl] <;> iassumption
  icases HS with ⟨Hv, Hsh⟩
  ihave HW := (body_spec m c K t0_0) $$ [HA HB HO Hs Hv Hsh Hw]
  · unfold BodyIn
    isplitr; · iexact HR
    isplitr; · iexact HL
    isplitl [HA]; · iexact HA
    isplitl [HB]; · iexact HB
    isplitl [HO]; · iexact HO
    isplitl [Hs]; · iexact Hs
    isplitl [Hv]; · iexact Hv
    isplitl [Hsh]; · iexact Hsh
    iexists _; iexact Hw
  iapply (wp_wand frame (wpE defs₀ Variants.none (c : Thread nD τ) none) Set.univ) $$ HW
  iintro %u HQ
  unfold BodyOut
  icases HQ with ⟨HA, HB, HO, Hs, Hv, Hr, Hb, ⟨%W', Hw⟩⟩
  isplitl [HA HB HO Hs Hv Hr Hb]
  · unfold Φ₁
    isplitl [HA]; · iexact HA
    isplitl [HB]; · iexact HB
    isplitl [HO]; · iexact HO
    isplitl [Hs]; · iexact Hs
    isplitl [Hv]; · iexact Hv
    isplitl [Hr]; · iexact Hr
    iexact Hb
  isplitl [Hw]
  · iexists W'
    isplitr; · ipureintro; exact fun _ _ => Or.inl trivial
    iexact Hw
  iexact He

/-! ## The launch's resources -/

abbrev osem : Fin 15 → SemLoc sig := fun i => .dma i
theorem ownSemFacts : Pipeline.OwnSemFacts cfg0.spec osem := by decide

/-- The number of a cell among its device's. -/
def cellNo (g : GSem nD τ sig) : ℕ :=
  if g.2 = .reg barS then 0 else if g.2 = .dma sER then 5 else match slotNo g.2 with | some 0 => 4 | some j => j | none => 0

theorem cellNo_at (p : Dev nD × Fin 6) : cellNo (cellAt p) = p.2.val := by
  obtain ⟨c, i⟩ := p
  unfold cellAt cellNo
  dsimp only
  have hi := i.isLt
  by_cases h0 : i.val = 0
  · rw [if_pos h0, if_pos rfl, h0]
  rw [if_neg h0]
  by_cases h5 : i.val = 5
  · rw [if_pos h5, if_neg sER_ne_bar, if_pos rfl, h5]
  rw [if_neg h5, if_neg (sR_ne_bar _), if_neg (sR_ne_sER _), slotNo_sR]
  generalize i.val = n at *
  obtain rfl | rfl | rfl | rfl : n = 1 ∨ n = 2 ∨ n = 3 ∨ n = 4 := by omega
  all_goals rfl

theorem cellAt_dev (p : Dev nD × Fin 6) : (cellAt p).1.1 = p.1 := by
  unfold cellAt; (repeat' split) <;> rfl

theorem cellAt_injective : Function.Injective (cellAt : Dev nD × Fin 6 → GSem nD τ sig) := fun p q h =>
  Prod.ext (by rw [← cellAt_dev p, ← cellAt_dev q, h]) (Fin.ext (by rw [← cellNo_at p, ← cellNo_at q, h]))

def allCells : Finset (GSem nD τ sig) := Finset.univ.map ⟨cellAt, cellAt_injective⟩

/-- The duties of a device's cells: the barrier's, the chunks', the edge's two. -/
def tokAt (p : Dev nD × Fin 34) : GSem nD τ sig × ℕ × Unit :=
  if p.2.val = 0 then (barCell p.1, 0, ()) else if p.2.val < 32 then (rCell p.1 p.2.val, rnd p.2.val, ()) else (eCell p.1, p.2.val - 32, ())
def tokNo (x : GSem nD τ sig × ℕ × Unit) : ℕ :=
  if x.1.2 = .reg barS then 0 else if x.1.2 = .dma sER then 32 + x.2.1 else match slotNo x.1.2 with | some j => chunkNo j x.2.1 | none => 0

theorem tokNo_at (p : Dev nD × Fin 34) : tokNo (tokAt p) = p.2.val := by
  obtain ⟨c, i⟩ := p
  unfold tokAt tokNo
  dsimp only
  have hi := i.isLt
  by_cases h0 : i.val = 0
  · rw [if_pos h0, if_pos rfl, h0]
  rw [if_neg h0]
  by_cases h5 : i.val < 32
  · rw [if_pos h5, if_neg (sR_ne_bar _), if_neg (sR_ne_sER _), slotNo_sR]
    exact chunkNo_rnd (by omega)
  · rw [if_neg h5, if_neg sER_ne_bar, if_pos rfl]
    show 32 + (i.val - 32) = i.val
    omega
theorem tokAt_dev (p : Dev nD × Fin 34) : (tokAt p).1.1.1 = p.1 := by
  unfold tokAt; (repeat' split) <;> rfl
theorem tokAt_injective : Function.Injective (tokAt : Dev nD × Fin 34 → GSem nD τ sig × ℕ × Unit) := fun p q h =>
  Prod.ext (by rw [← tokAt_dev p, ← tokAt_dev q, h]) (Fin.ext (by rw [← tokNo_at p, ← tokNo_at q, h]))

def allToks : Finset (GSem nD τ sig × ℕ × Unit) := Finset.univ.map ⟨tokAt, tokAt_injective⟩

def u₀ : UU :=
  (initOf (Pipeline.cells cfgs cellOf_inj) (Pipeline.launchToks cfgs cellOf_inj), initOf allCells allToks, 1)

/-- The tokens of the duties of the device's own cells. -/
def ownToks : sProp 𝕄 :=
  iprop(dutyTok ER (barCell c) 0 () ∗ (bigSep (Finset.Ico 1 32) fun k => dutyTok ER (rCell c k) (rnd k) ()) ∗ dutyTok ER (eCell c) 0 () ∗ dutyTok ER (eCell c) 1 ())

def G : sProp 𝕄 :=
  iprop((bigSep Finset.univ fun k : Fin 6 => roundState ER (Rd m) (cellAt (c, k)) 0)
    ∗ (bigSep Finset.univ fun k : Fin 6 => atPos ER (cellAt (c, k)) 0 ∅ 0) ∗ (bigSep Finset.univ fun k : Fin 6 => reached ER (cellAt (c, k)) 0) ∗ ownToks c)

theorem fin6_sep (Φ : Fin 6 → sProp 𝕄) : bigSep Finset.univ Φ = iprop(Φ 0 ∗ Φ 1 ∗ Φ 2 ∗ Φ 3 ∗ Φ 4 ∗ Φ 5) :=
  BI.bigSep_univ_eq_bigSepL [0, 1, 2, 3, 4, 5] (by decide) (by decide) Φ

theorem toks_eq : bigSep allToks (fun x => (dutyTok ER x.1 x.2.1 x.2.2 : sProp 𝕄)) = bigSep Finset.univ fun c : Dev nD => ownToks c := by
  unfold allToks
  rw [BI.bigSep_map, BI.bigSep_univ_prod]
  refine BI.bigSep_congr fun c _ => ?_
  have h1 : (Finset.univ : Finset (Fin 34)).map Fin.valEmbedding = Finset.Ico 0 34 := by
    ext x; simp only [Finset.mem_map, Finset.mem_univ, true_and, Fin.valEmbedding_apply, Finset.mem_Ico]
    exact ⟨fun ⟨a, h⟩ => by have := a.isLt; omega, fun h => ⟨⟨x, h.2⟩, rfl⟩⟩
  have h2 := BI.bigSep_map (s := (Finset.univ : Finset (Fin 34))) Fin.valEmbedding
    (Φ := fun i => (if i = 0 then dutyTok ER (barCell c) 0 () else if i < 32 then dutyTok ER (rCell c i) (rnd i) () else dutyTok ER (eCell c) (i - 32) () : sProp 𝕄))
  rw [h1, Ico_top (a := 0) (b := 33) (by omega), Ico_top (a := 0) (b := 32) (by omega), Ico_bot (a := 0) (b := 32) (by omega)] at h2
  have h3 : (bigSep (Finset.Ico (0 + 1) 32) fun i => (if i = 0 then dutyTok ER (barCell c) 0 () else if i < 32 then dutyTok ER (rCell c i) (rnd i) () else dutyTok ER (eCell c) (i - 32) () : sProp 𝕄))
      = bigSep (Finset.Ico 1 32) fun k => dutyTok ER (rCell c k) (rnd k) () := BI.bigSep_congr fun i hi => by
    have := Finset.mem_Ico.mp hi
    rw [if_neg (by omega), if_pos (by omega)]
  rw [h3] at h2
  rw [if_neg (show ¬ (33 : ℕ) = 0 by omega), if_neg (show ¬ (33 : ℕ) < 32 by omega), if_neg (show ¬ (32 : ℕ) = 0 by omega),
    if_neg (show ¬ (32 : ℕ) < 32 by omega), if_pos (rfl : (0 : ℕ) = 0)] at h2
  have h4 : (bigSep Finset.univ fun b : Fin 34 => (dutyTok ER (tokAt (c, b)).1 (tokAt (c, b)).2.1 (tokAt (c, b)).2.2 : sProp 𝕄))
      = bigSep Finset.univ fun i : Fin 34 => (if i.val = 0 then dutyTok ER (barCell c) 0 () else if i.val < 32 then dutyTok ER (rCell c i.val) (rnd i.val) () else dutyTok ER (eCell c) (i.val - 32) () : sProp 𝕄) :=
    BI.bigSep_congr fun i _ => by unfold tokAt; dsimp only; (repeat' split) <;> rfl
  refine h4.trans (h2.symm.trans ?_)
  unfold ownToks
  refine BI.Entails.antisymm (show _ ⊢ (_ : sProp 𝕄) from ?_) (show _ ⊢ (_ : sProp 𝕄) from ?_)
  · iintro ⟨H33, H32, H0, HR⟩
    isplitl [H0]; · iexact H0
    isplitl [HR]; · iexact HR
    isplitl [H32]; · iexact H32
    iexact H33
  · iintro ⟨H0, HR, H32, H33⟩
    isplitl [H33]; · iexact H33
    isplitl [H32]; · iexact H32
    isplitl [H0]; · iexact H0
    iexact HR

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 6 => Φ (cellAt (c, k)) := by
    unfold allCells; rw [BI.bigSep_map, BI.bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G; simp only [BI.bigSep_sep']
  isplitl [Hst]; · iexact Hst
  isplitl [Hat]; · iexact Hat
  isplitl [Hr]; · iexact Hr
  iexact Htok

theorem ownSems0_eq : (Pipeline.ownSems0 (Ix := ℕ) (Name := ℕ) (U := UU) (Lvl := ℕ) (Val := Elt F) (τ := τ) osem c : sProp 𝕄)
    = iprop(sv c sB ∗ sv c (sA 1) ∗ sv c (sA 0) ∗ sv c sAE ∗ sv c (sO 0) ∗ sv c (sO 1) ∗ sv c sOE ∗ sv c (sS 1) ∗ sv c (sS 0)
        ∗ sv c (sR 0) ∗ sv c (sR 1) ∗ sv c (sR 2) ∗ sv c (sR 3) ∗ sv c sES ∗ sv c sER) := by
  rw [Pipeline.ownSems0_eq_of_list c osem [0, 2, 1, 3, 4, 5, 6, 8, 7, 9, 10, 11, 12, 13, 14] (by decide) (by decide)]; rfl
theorem unscopedSems0_eq : (unscopedSems0 c : sProp 𝕄) = semVal (barCell c) 0 := by
  unfold unscopedSems0; rw [BI.bigSep_eq_bigSepL_of_eq [SemLoc.reg barS] (by decide) (by decide)]; rfl

theorem sems_in : iprop(Pipeline.ownSems0 (Ix := ℕ) (Name := ℕ) (U := UU) (Lvl := ℕ) (Val := Elt F) (τ := τ) osem c ∗ unscopedSems0 c)
    ⊢ (iprop(Svs c ∗ bigSep Finset.univ fun k : Fin 6 => semVal (cellAt (c, k)) 0) : sProp 𝕄) := by
  rw [ownSems0_eq, unscopedSems0_eq, fin6_sep]
  iintro ⟨⟨HB, HA1, HA0, HAE, HO0, HO1, HOE, HS1, HS0, HR0, HR1, HR2, HR3, HES, HER⟩, Hb⟩
  isplitr [Hb HR0 HR1 HR2 HR3 HER]
  · isplitl [HB]; · iexact HB
    isplitl [HA0]; · iexact HA0
    isplitl [HA1]; · iexact HA1
    isplitl [HAE]; · iexact HAE
    isplitl [HO0]; · iexact HO0
    isplitl [HO1]; · iexact HO1
    isplitl [HOE]; · iexact HOE
    isplitl [HS0]; · iexact HS0
    isplitl [HS1]; · iexact HS1
    iexact HES
  isplitl [Hb]; · iexact Hb
  isplitl [HR1]; · iexact HR1
  isplitl [HR2]; · iexact HR2
  isplitl [HR3]; · iexact HR3
  isplitl [HR0]
  · iapply (Entails.of_eq (sv_congr (F := F) c (sR_congr (k := 0) (k' := 4) rfl))); iexact HR0
  iexact HER

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cellAt (c, k))))
          ∗ (bigSep Finset.univ fun k : Fin 6 => reached ER (cellAt (c, k)) 0) ∗ (bigSep Finset.univ fun k : Fin 6 => atPos ER (cellAt (c, k)) 0 ∅ 0) ∗ Svs c ∗ ownToks c) := by
  unfold G
  iintro ⟨Hos, Hus, Hst, Hat, Hr, Htok⟩
  ihave Hv := (sems_in (F := F) c) $$ [Hos Hus]
  · isplitl [Hos] <;> iassumption
  icases Hv with ⟨HS, Hv⟩
  imod (show iprop((bigSep Finset.univ fun k : Fin 6 => semVal (cellAt (c, k)) 0) ∗ bigSep Finset.univ fun k : Fin 6 => roundState ER (Rd m) (cellAt (c, k)) 0)
      ⊢ (|={Set.univ}=> bigSep Finset.univ fun k => iprop(∃ κ : ℕ, cellInv ER (Rd m) κ (cellAt (c, k))) : sProp 𝕄) from by
        rw [← BI.bigSep_sep']
        exact (BI.bigSep_mono fun k _ => (Rounds.body_intro ER (Rd m) (cellAt (c, k))).trans inv_alloc).trans (BI.bigSep_fupd _ _)) $$ [Hv Hst] with Hinv
  · isplitl [Hv] <;> iassumption
  imodintro
  isplitl [Hinv]; · iexact Hinv
  isplitl [Hr]; · iexact Hr
  isplitl [Hat]; · iexact Hat
  isplitl [HS]; · iexact HS
  iexact Htok

/-- The tokens of the duties a device does: of its peer's cells. -/
def payToks : sProp 𝕄 :=
  iprop(dutyTok ER (barCell (peer c)) 0 () ∗ Toks c 0 ∗ dutyTok ER (eCell (peer c)) 0 () ∗ dutyTok ER (eCell (peer c)) 1 ())
theorem toks_swap : (bigSep Finset.univ fun c : Dev nD => (ownToks c : sProp 𝕄)) = bigSep Finset.univ fun c : Dev nD => payToks c := by
  rw [BI.bigSep_univ_equiv swap (fun c : Dev nD => (ownToks c : sProp 𝕄))]
  rfl

theorem lin_intro : iprop((bigSep Finset.univ fun k : Fin 6 => atPos ER (cellAt (c, k)) 0 ∅ 0) ∗ Svs c ∗ payToks c) ⊢ (Lin c : sProp 𝕄) := by
  rw [fin6_sep]
  unfold payToks Lin
  iintro ⟨⟨Hb, H1, H2, H3, H4, He⟩, HS, HT⟩
  isplitl [HS]; · iexact HS
  isplitr [HT]
  · isplitl [Hb]; · iexact Hb
    isplitl [H1]; · iexact H1
    isplitl [H2]; · iexact H2
    isplitl [H3]; · iexact H3
    isplitl [H4]; · iexact H4
    iexact He
  iexact HT

theorem deal (K : GSem nD τ sig → ℕ) : iprop(Recs m K ∗ bigSep Finset.univ fun c : Dev nD => (Lin c : sProp 𝕄)) ⊢ bigSep Finset.univ (G' m) :=
  (sep_mono_left (BI.bigSep_of_persistent (Finset.univ : Finset (Dev nD)) (Recs m K))).trans (by
    rw [← BI.bigSep_sep']
    refine BI.bigSep_mono fun c _ => ?_
    exact exists_intro (Φ := fun K => iprop(Recs m K ∗ Lin c)) K)

theorem regroup :
    (bigSep Finset.univ fun c : Dev nD => iprop((bigSep Finset.univ fun k => iprop(∃ κ : ℕ, cellInv ER (Rd m) κ (cellAt (c, k))))
          ∗ (bigSep Finset.univ fun k : Fin 6 => reached ER (cellAt (c, k)) 0) ∗ (bigSep Finset.univ fun k : Fin 6 => atPos ER (cellAt (c, k)) 0 ∅ 0) ∗ Svs c ∗ ownToks c) : sProp 𝕄)
      ⊢ bigSep Finset.univ (G' m) := by
  rw [BI.bigSep_sep', BI.bigSep_sep', BI.bigSep_sep', BI.bigSep_sep', ← BI.bigSep_univ_prod (fun p : Dev nD × Fin 6 => iprop(∃ κ : ℕ, cellInv ER (Rd m) κ (cellAt p))),
    ← BI.bigSep_univ_prod (fun p : Dev nD × Fin 6 => (reached ER (cellAt p) 0 : sProp 𝕄)), toks_swap]
  iintro ⟨HI, HR, Hat, HS, Htok⟩
  ihave HK := (BI.bigSep_exists_pi Finset.univ (fun (p : Dev nD × Fin 6) (κ : ℕ) => (cellInv ER (Rd m) κ (cellAt p) : sProp 𝕄))) $$ HI
  icases HK with ⟨%K, HI⟩
  iapply (deal m (Function.extend cellAt K 0))
  isplitl [HI HR]
  · unfold Recs
    simp only [cellAt_injective.extend_apply, BI.bigSep_sep']
    isplitl [HI] <;> iassumption
  iapply (show iprop((bigSep Finset.univ fun c : Dev nD => bigSep Finset.univ fun k : Fin 6 => atPos ER (cellAt (c, k)) 0 ∅ 0)
      ∗ (bigSep Finset.univ fun c : Dev nD => Svs c) ∗ bigSep Finset.univ fun c : Dev nD => payToks c) ⊢ (bigSep Finset.univ fun c : Dev nD => Lin c : sProp 𝕄) from by
    rw [← BI.bigSep_sep', ← BI.bigSep_sep']
    exact BI.bigSep_mono fun c _ => lin_intro c)
  isplitl [Hat]; · iexact Hat
  isplitl [HS] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (BI.bigSep_fupd _ _)).trans (BI.fupd_mono (regroup m))

/-- What the devices owe at the start is what each will wait for. -/
theorem creds : (Pipeline.launchCred O₀ c : sProp 𝕄) ⊢ Creds c := by
  have e : (O₀ : Dev nD → CellTallies nD τ sig ℕ) = fun d => (((∑ j ∈ Finset.Ico 1 32, tallyAt (rCell (peer d) j) j NR) + tallyAt (eCell (peer d)) 32 NE)
      + tallyAt (eCell (peer d)) 0 NE) + tallyAt (barCell (peer d)) 0 1 := rfl
  rw [e, Pipeline.launchCred_add, Pipeline.launchCred_add, Pipeline.launchCred_add, Pipeline.launchCred_sum]
  unfold Creds
  iintro ⟨⟨⟨HR, H32⟩, H0⟩, HB⟩
  isplitl [HR]
  · iapply (show (bigSep (Finset.Ico 1 32) fun j => (Pipeline.launchCred (fun d => tallyAt (rCell (peer d) j) j NR) c : sProp 𝕄))
        ⊢ bigSep (Finset.Ico 1 32) fun k => cred (tallyAt (rCell c k) k NR) from
      BI.bigSep_mono fun j _ => Pipeline.launchCred_tallyAt (.dma (sR j)) peer peer peer_peer peer_peer j NR c)
    iexact HR
  isplitl [H32]; · iapply (Pipeline.launchCred_tallyAt (.dma sER) peer peer peer_peer peer_peer 32 NE c); iexact H32
  isplitl [H0]; · iapply (Pipeline.launchCred_tallyAt (.dma sER) peer peer peer_peer peer_peer 0 NE c); iexact H0
  iapply (Pipeline.launchCred_tallyAt (.reg barS) peer peer peer_peer peer_peer 0 1 c); iexact HB

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(Start m c ∗ emp) : sProp 𝕄) := by
  rw [Pipeline.unscopedRestP_none, unscopedRest0_eq]
  iintro ⟨⟨HA, HB, HO⟩, Hl, Hc, -, HG⟩
  imodintro
  unfold Start
  isplitl
  · isplitl [HG]; · iexact HG
    isplitl [Hc]; · iapply (creds c); iexact Hc
    isplitl [Hl]; · iexact Hl
    isplitl [HA]; · iexact HA
    isplitl [HB]; · iexact HB
    iexists _; iexact HO
  · iempintro

theorem phi_in :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What is read at the end: the arguments and the result, and the barrier's counter. -/
def Fin_ : sProp 𝕄 :=
  iprop((((c : Thread nD τ).loc main_arg0) ↦{fullShare} (Ac m c)) ∗ (((c : Thread nD τ).loc main_arg1) ↦{fullShare} (Bc m c))
    ∗ (((c : Thread nD τ).loc main_v1) ↦{fullShare} (outV m c)) ∗ unscopedSems0 c)

theorem phi_out :
    (dats m 0 c).Φ (Fin.last cfg0.N) ⊢ iprop(Fin_ m c ∗ Pipeline.ownSems0 osem c ∗ Pipeline.scopedRest cfg0.spec c) := by
  rw [show (dats m 0 c).Φ (Fin.last cfg0.N) = Φ₁ m c from rfl, scopedRest0_eq, ownSems0_eq]
  unfold Φ₁ Fin_
  rw [unscopedSems0_eq]
  iintro ⟨HA, HB, HO, Hs, ⟨HvB, HA0, HA1, HAE, HO0, HO1, HOE, HS0, HS1, HES⟩, ⟨HR0, HR1, HR2, HR3, HER⟩, Hb⟩
  isplitl [HA HB HO Hb]
  · isplitl [HA]; · iexact HA
    isplitl [HB]; · iexact HB
    isplitl [HO]; · iexact HO
    iexact Hb
  isplitr [Hs]
  · isplitl [HvB]; · iexact HvB
    isplitl [HA1]; · iexact HA1
    isplitl [HA0]; · iexact HA0
    isplitl [HAE]; · iexact HAE
    isplitl [HO0]; · iexact HO0
    isplitl [HO1]; · iexact HO1
    isplitl [HOE]; · iexact HOE
    isplitl [HS1]; · iexact HS1
    isplitl [HS0]; · iexact HS0
    isplitl [HR0]; · iexact HR0
    isplitl [HR1]; · iexact HR1
    isplitl [HR2]; · iexact HR2
    isplitl [HR3]; · iexact HR3
    isplitl [HES]; · iexact HES
    iexact HER
  iexact Hs

theorem waits : (levAts L lv : sProp 𝕄) ⊢ Pipeline.cellsWaits cfgs (dats m) 0 0 c :=
  Pipeline.cellsWaits_intro cfgs (dats m) 0 0 c fun w => w.elim0

/-- What holds of a device's memory at the end. -/
def Ends (s : MemSt nD τ sig (Elt F)) : Prop :=
  s.mem ((c : Thread nD τ).loc main_arg0) = Ac m c ∧ s.mem ((c : Thread nD τ).loc main_arg1) = Bc m c ∧ s.mem ((c : Thread nD τ).loc main_v1) = outV m c

theorem read_end (s' : Phys nD τ sig (Elt F)) :
    iprop(Fin_ m c ∗ emp ∗ SI s') ⊢ (|={Set.univ}=> iprop(⌜Ends m c s'.mem ∧ ∀ sm : SemLoc sig, sm.isScoped .tc = false → s'.mem.sem ((c.tc : Thread nD τ), sm) = 0⌝ ∗ SI s') : sProp 𝕄) := by
  unfold Fin_
  iintro ⟨⟨HA, HB, HO, Hu⟩, -, HSI⟩
  ihave %h0 := (SI_pointsTo_agree (st := s')) $$ [HSI HA]
  · isplitl [HSI] <;> iassumption
  ihave %h1 := (SI_pointsTo_agree (st := s')) $$ [HSI HB]
  · isplitl [HSI] <;> iassumption
  ihave %h2 := (SI_pointsTo_agree (st := s')) $$ [HSI HO]
  · isplitl [HSI] <;> iassumption
  imod (Pipeline.unscopedSems0_read (X := unscopedSems0 c) (c := c) BI.fupd_intro s') $$ [Hu HSI] with ⟨%hu, HSI⟩
  · isplitl [Hu] <;> iassumption
  imodintro
  isplitr
  · ipureintro
    exact ⟨⟨funext fun i => h0 i (Finset.mem_univ _), funext fun i => h1 i (Finset.mem_univ _), funext fun i => h2 i (Finset.mem_univ _)⟩, hu⟩
  iexact HSI

/-! ## The run -/

/-- From any memory with the counters at zero the program runs to its end on every device, the result at `outV`, the
    arguments as they were and every counter at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show (BI.own (embR (initOf allCells allToks, (1 : Counters))) : sProp 𝕄) ⊢ BI.own (ER (initOf allCells allToks)) from .rfl) $$ HX
      imod (fund_all m) $$ HX with HG
      imodintro
      isplitl [HP] <;> iassumption)
    (hglob := glob m)
    (hA := fun _ w => w.elim0) (hpf := fun _ k => k.elim0)
    (X := Start m) (Y := Fin_ m) (Z := fun _ => iprop(emp))
    (hX := fun c => start_intro m c ρ) (hin := phi_in m) (hout := phi_out m)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.Proof.MM

end
-- ==== Proof.Value.lean ====
/-
  The value over the reals: a device's block of the result is the product of the rows of `A` with its columns of `B`.
-/
module

public import proofs.«01_k».proof.Proof.Launch
public import Idealize.ShloMosaic.Lib.MatmulPlain
public import Idealize.ShloMosaic.Lib.StackMember
public import Idealize.ShloMosaic.Lib.Layout

@[expose] public section

set_option maxRecDepth 16384

noncomputable section

namespace Cert.Proof.MM

open Cert.KernelIdeal Cert.KernelIdeal.Gen
open Cert.Proof.Rules
open Idealize.ShloMosaic hiding ix2 eq_ix2
open Idealize.ShloMosaic.TcCoe Idealize.ShloMosaic.Tactic
open Idealize.SL Idealize.SL.RA
open Idealize.SL.BI (sProp Storable bigSep bigSep_singleton)
open scoped Idealize.SL.BI
open Idealize.SL.BI.BIBase Idealize.SL.BI.Laws Idealize.SL.ProofMode Idealize.SL.Sem
open Idealize.ShloMosaic.Rounds
open Idealize.ShloMosaic.Transfers (Flight)

open Idealize.ShloMosaic.ValueIdx
open scoped BigOperators

variable (m : (ℓ : Loc nD τ sig) → Buf (Elt Ideal) ℓ) (c : Dev nD)

/-- The two blocks of a device, as arrays of reals. -/
abbrev AR (c : Dev nD) : FVec Ideal S4096x2048 .f32 := Ac m c
abbrev BR (c : Dev nD) : FVec Ideal S2048x4096 .f32 := Bc m c

/-- Row `a` of the device's block of `A` against column `b` of its block of `B`. -/
def half (c : Dev nD) (a b : Fin 4096) : EReal := ∑ t : Fin 2048, AR m c (ix2 a t) * BR m c (ix2 t b)

theorem zero_bits : (constant (F := Ideal) S128x4096 .f32 0x00000000#32) = fun _ => (0 : EReal) :=
  funext fun _ => Ideal.ofBits_zero_f32
theorem zero_bits64 : (constant (F := Ideal) S64x4096 .f32 0x00000000#32) = fun _ => (0 : EReal) :=
  funext fun _ => Ideal.ofBits_zero_f32

/-- A product of 128 rows into zero, and one of 64. -/
theorem mul128 (X : FVec Ideal S128x2048 .f32) (Y : FVec Ideal S2048x4096 .f32) (r : Fin 128) (q : Fin 4096) :
    matmul dot_S128x2048_S2048x4096_S128x4096_1_0_0_1_n_n none X Y (constant S128x4096 .f32 0x00000000#32) (ix2 r q)
      = ∑ t : Fin 2048, X (ix2 r t) * Y (ix2 t q) := by
  rw [zero_bits]
  exact (Ideal.matmul_plain_apply none X Y (fun _ => (0 : EReal)) r q).trans (zero_add _)
theorem mul64 (X : FVec Ideal S64x2048 .f32) (Y : FVec Ideal S2048x4096 .f32) (r : Fin 64) (q : Fin 4096) :
    matmul dot_S64x2048_S2048x4096_S64x4096_1_0_0_1_n_n none X Y (constant S64x4096 .f32 0x00000000#32) (ix2 r q)
      = ∑ t : Fin 2048, X (ix2 r t) * Y (ix2 t q) := by
  rw [zero_bits64]
  exact (Ideal.matmul_plain_apply none X Y (fun _ => (0 : EReal)) r q).trans (zero_add _)

theorem cast64 (x : FVec Ideal S64x4096 .f32) (h : S64x4096.ShapeCasts S64x4096) : shapeCast S64x4096 x h = x :=
  funext fun j => congrArg x (Shape.reshapeEquiv_self h j)
theorem flat_cast (x : FVec Ideal S128x4096 .f32) (h : S128x4096.ShapeCasts S1x128x4096) :
    flat (F := Ideal) (e := .f32) (shapeCast S1x128x4096 x h) = x := by
  funext j
  show x (Shape.reshapeEquiv _ (Shape.reshapeEquiv _ j)) = x j
  rw [Shape.reshapeEquiv_reshapeEquiv, Shape.reshapeEquiv_self]

/-- What the kernel's pieces compute, the changes of shape put aside. -/
theorem pay2_eq (X : FVec Ideal S1x128x2048 .f32) (Y : FVec Ideal S2048x4096 .f32) :
    flat (F := Ideal) (e := .f32) (k0_pay2 (F := Ideal) X Y)
      = matmul (φ₁ := .f32) dot_S128x2048_S2048x4096_S128x4096_1_0_0_1_n_n none (flatA (F := Ideal) (e := .f32) X) Y (constant S128x4096 .f32 0x00000000#32) := by
  unfold k0_pay2
  exact flat_cast _ _
theorem pay6_eq (X Y : FVec Ideal S1x128x4096 .f32) :
    flat (F := Ideal) (e := .f32) (k0_pay6 (F := Ideal) (k0_pay1 (F := Ideal) X) Y)
      = addf (F := Ideal) (s := S128x4096) (φ := .f32) (flat (F := Ideal) (e := .f32) X) (flat (F := Ideal) (e := .f32) Y) := by
  unfold k0_pay6 k0_pay1
  exact flat_cast _ _
theorem pay3_eq (X : FVec Ideal S64x2048 .f32) (Y : FVec Ideal S2048x4096 .f32) :
    k0_pay4 (F := Ideal) (k0_pay3 (F := Ideal) X Y)
      = matmul dot_S64x2048_S2048x4096_S64x4096_1_0_0_1_n_n none X Y (constant S64x4096 .f32 0x00000000#32) := by
  unfold k0_pay4 k0_pay3
  exact cast64 _ _
theorem pay7_eq (X : FVec Ideal S64x2048 .f32) (Y : FVec Ideal S2048x4096 .f32) :
    k0_pay7 (F := Ideal) X Y
      = matmul dot_S64x2048_S2048x4096_S64x4096_1_0_0_1_n_n none X Y (constant S64x4096 .f32 0x00000000#32) := by
  unfold k0_pay7
  exact cast64 _ _
theorem pay5_eq (X Y : FVec Ideal S64x4096 .f32) : k0_pay5 (F := Ideal) X Y = addf X Y := by
  unfold k0_pay5
  exact cast64 _ _
theorem pay11_eq (X Y : FVec Ideal S64x4096 .f32) : k0_pay11 (F := Ideal) X Y = addf X Y := by
  unfold k0_pay11
  exact cast64 _ _

/-- A chunk's product, and the sum of a chunk's two. -/
theorem part_flat (k : ℕ) (r : Fin 128) (q : Fin 4096) (a : Fin 4096) (ha : a.val = row k + r.val) :
    flat (part m c k) (ix2 r q) = half m c a q := by
  have e : flat (part m c k) = matmul dot_S128x2048_S2048x4096_S128x4096_1_0_0_1_n_n none (flatA (aBlk m c k)) (Bc m c) (constant S128x4096 .f32 0x00000000#32) :=
    pay2_eq _ _
  rw [e]
  refine (mul128 _ _ r q).trans ?_
  unfold half
  refine Finset.sum_congr rfl fun t _ => ?_
  refine congrArg (· * _) ?_
  unfold aBlk
  rw [flatA_liftA]
  refine congrArg (Ac m c) ?_
  funext d; apply Fin.ext
  match d with
  | 0 => show row k + 1 * r.val = a.val; omega
  | 1 => show 0 + 1 * t.val = t.val; omega
theorem sum_flat (k : ℕ) (r : Fin 128) (q : Fin 4096) (a : Fin 4096) (ha : a.val = row k + r.val) :
    flat (sumC m c k) (ix2 r q) = half m c a q + half m (peer c) a q := by
  rw [← part_flat m c k r q a ha, ← part_flat m (peer c) k r q a ha]
  have e : flat (sumC m c k) = addf (F := Ideal) (s := S128x4096) (φ := .f32) (flat (part m c k)) (flat (part m (peer c) k)) := pay6_eq _ _
  rw [e]
  rfl

theorem edge0 (r : Fin 64) (q : Fin 4096) (a : Fin 4096) (ha : a.val = r.val) : pE0 m c (ix2 r q) = half m c a q := by
  have e : pE0 m c = matmul dot_S64x2048_S2048x4096_S64x4096_1_0_0_1_n_n none (aE0 m c) (Bc m c) (constant S64x4096 .f32 0x00000000#32) := pay3_eq _ _
  rw [e]
  refine (mul64 _ _ r q).trans ?_
  unfold half
  refine Finset.sum_congr rfl fun t _ => ?_
  refine congrArg (· * _) ?_
  refine congrArg (Ac m c) ?_
  funext d; apply Fin.ext
  match d with
  | 0 => show 0 + 1 * r.val = a.val; omega
  | 1 => show 0 + 1 * t.val = t.val; omega
theorem edge1 (r : Fin 64) (q : Fin 4096) (a : Fin 4096) (ha : a.val = 4032 + r.val) : pE1 m c (ix2 r q) = half m c a q := by
  have e : pE1 m c = matmul dot_S64x2048_S2048x4096_S64x4096_1_0_0_1_n_n none (aE1 m c) (Bc m c) (constant S64x4096 .f32 0x00000000#32) := pay7_eq _ _
  rw [e]
  refine (mul64 _ _ r q).trans ?_
  unfold half
  refine Finset.sum_congr rfl fun t _ => ?_
  refine congrArg (· * _) ?_
  refine congrArg (Ac m c) ?_
  funext d; apply Fin.ext
  match d with
  | 0 => show 4032 + 1 * r.val = a.val; omega
  | 1 => show 0 + 1 * t.val = t.val; omega

/-- Every element of the result is the device's half of the contraction and its peer's. -/
theorem out_at (a b : Fin 4096) : outV m c (ix2 a b) = half m c a b + half m (peer c) a b := by
  unfold outV
  have h0 : ((ix2 a b : S4096x4096.Idx) 0).val = a.val := rfl
  split
  · rename_i h
    have e : sE0 m c = addf (F := Ideal) (s := S64x4096) (φ := .f32) (pE0 m c) (pE0 m (peer c)) := pay5_eq _ _
    rw [e]
    exact congrArg₂ (fun x y : EReal => x + y) (edge0 m c _ b a rfl) (edge0 m (peer c) _ b a rfl)
  · rename_i h
    split
    · rename_i h'
      have e : sE1 m c = addf (F := Ideal) (s := S64x4096) (φ := .f32) (pE1 m c) (pE1 m (peer c)) := pay11_eq _ _
      rw [e]
      have ha : a.val = 4032 + (a.val - 4032) := by rw [h0] at h'; omega
      exact congrArg₂ (fun x y : EReal => x + y) (edge1 m c _ b a ha) (edge1 m (peer c) _ b a ha)
    · rename_i h'
      refine sum_flat m c _ _ b a ?_
      rw [h0] at h h'
      rw [row_eq (show (a.val - 64) / 128 + 1 ≤ 31 by omega)]
      show a.val = 64 + 128 * ((a.val - 64) / 128 + 1 - 1) + (a.val - 64) % 128
      omega

/-! ## Against the whole arrays -/

variable (A : FVec Ideal ⟨2, ![4096, 4096]⟩ .f32) (B : FVec Ideal ⟨2, ![4096, 8192]⟩ .f32)

/-- Row `a` of `A` against column `b` of `B`, over the contracted positions of half `x`. -/
def span (x : Fin 2) (a : Fin 4096) (b : Fin 8192) : EReal :=
  ∑ t : Fin 2048, A (ix2 a ⟨x.val * 2048 + t.val, by omega⟩) * B (ix2 ⟨x.val * 2048 + t.val, by omega⟩ b)

theorem whole_at (a : Fin 4096) (b : Fin 8192) :
    Host.dotGeneral (DotDims.plain 4096 4096 8192) none A B (ix2 a b) = span A B 0 a b + span A B 1 a b := by
  rw [StackMember.dotGeneral_plain_apply]
  refine (Fin.sum_univ_add (a := 2048) (b := 2048) (fun t => A (ix2 a t) * B (ix2 t b))).trans ?_
  unfold span
  refine congrArg₂ (fun x y : EReal => x + y) (Finset.sum_congr rfl fun t _ => ?_) (Finset.sum_congr rfl fun t _ => ?_)
  · have e : (Fin.castAdd 2048 t : Fin 4096) = ⟨(0 : Fin 2).val * 2048 + t.val, by have := t.isLt; show 0 * 2048 + t.val < 4096; omega⟩ :=
      Fin.ext (show t.val = 0 * 2048 + t.val by omega)
    rw [e]
  · have e : (Fin.natAdd 2048 t : Fin 4096) = ⟨(1 : Fin 2).val * 2048 + t.val, by have := t.isLt; show 1 * 2048 + t.val < 4096; omega⟩ :=
      Fin.ext (show 2048 + t.val = 1 * 2048 + t.val by omega)
    rw [e]

set_option backward.proofsInPublic true in
/-- A device's place along the contracted axis, and the column of the whole result its column `b` is. -/
def xOf (c : Dev nD) : Fin 2 := ⟨c.val / 2, by have h : c.val < 4 := c.isLt; omega⟩
set_option backward.proofsInPublic true in
def colOf (c : Dev nD) (b : Fin 4096) : Fin 8192 := ⟨(c.val % 2) * 4096 + b.val, by have := b.isLt; omega⟩

theorem xOf_peer : xOf (peer c) = 1 - xOf c := by revert c; decide
theorem colOf_peer (b : Fin 4096) : colOf (peer c) b = colOf c b := by
  have h : c.val < 4 := c.isLt
  apply Fin.ext
  show ((c.val % 2) + 2 - 2 * (c.val / 2)) % 2 * 4096 + b.val = c.val % 2 * 4096 + b.val
  omega

theorem lin0 : Layout.meshLin [2, 2] c.val [0] = c.val / 2 := by
  revert c; decide
theorem lin1 : Layout.meshLin [2, 2] c.val [1] = c.val % 2 := by
  revert c; decide

theorem half_eq (hA : AR m c = Layout.blockN ⟨2, ![4096, 2048]⟩ ⟨2, ![4096, 4096]⟩ (Layout.meshBlock [2, 2] ![[], [0]] c) A)
    (hB : BR m c = Layout.blockN ⟨2, ![2048, 4096]⟩ ⟨2, ![4096, 8192]⟩ (Layout.meshBlock [2, 2] ![[0], [1]] c) B) (a b : Fin 4096) :
    half m c a b = span A B (xOf c) a (colOf c b) := by
  unfold half span
  rw [hA, hB]
  refine Finset.sum_congr rfl fun t _ => ?_
  refine congrArg₂ (fun x y : EReal => x * y) (congrArg A ?_) (congrArg B ?_)
  · funext d; apply Fin.ext
    match d with
    | 0 => show 0 * 4096 + a.val = a.val; omega
    | 1 => show Layout.meshLin [2, 2] c.val [0] * 2048 + t.val = c.val / 2 * 2048 + t.val; rw [lin0]
  · funext d; apply Fin.ext
    match d with
    | 0 => show Layout.meshLin [2, 2] c.val [0] * 2048 + t.val = c.val / 2 * 2048 + t.val; rw [lin0]
    | 1 => show Layout.meshLin [2, 2] c.val [1] * 4096 + b.val = c.val % 2 * 4096 + b.val; rw [lin1]

/-- The device's block of the product of the whole arrays is what the device computes. -/
theorem out_eq (hA : ∀ c, AR m c = Layout.blockN ⟨2, ![4096, 2048]⟩ ⟨2, ![4096, 4096]⟩ (Layout.meshBlock [2, 2] ![[], [0]] c) A)
    (hB : ∀ c, BR m c = Layout.blockN ⟨2, ![2048, 4096]⟩ ⟨2, ![4096, 8192]⟩ (Layout.meshBlock [2, 2] ![[0], [1]] c) B) :
    outV m c = Layout.blockN ⟨2, ![4096, 4096]⟩ ⟨2, ![4096, 8192]⟩ (Layout.meshBlock [2, 2] ![[], [1]] c)
      (Host.dotGeneral (DotDims.plain 4096 4096 8192) none A B) := by
  funext i
  obtain ⟨a, b, rfl⟩ : ∃ a b, i = ix2 a b := ⟨_, _, eq_ix2 i⟩
  rw [out_at, half_eq m c A B (hA c) (hB c), half_eq m (peer c) A B (hA _) (hB _), colOf_peer, xOf_peer]
  have e : (Layout.blockN ⟨2, ![4096, 4096]⟩ ⟨2, ![4096, 8192]⟩ (Layout.meshBlock [2, 2] ![[], [1]] c)
      (Host.dotGeneral (DotDims.plain 4096 4096 8192) none A B)) (ix2 a b)
        = Host.dotGeneral (DotDims.plain 4096 4096 8192) none A B (ix2 a (colOf c b)) := by
    rw [Layout.blockN_apply]
    refine congrArg (Host.dotGeneral (DotDims.plain 4096 4096 8192) none A B) ?_
    funext d; apply Fin.ext
    match d with
    | 0 => show 0 * 4096 + a.val = a.val; omega
    | 1 => show Layout.meshLin [2, 2] c.val [1] * 4096 + b.val = c.val % 2 * 4096 + b.val; rw [lin1]
  rw [e, whole_at]
  obtain h | h : xOf c = 0 ∨ xOf c = 1 := by have := (xOf c).isLt; rcases hx : xOf c with ⟨v, hv⟩; interval_cases v <;> simp
  · rw [h]; rfl
  · rw [h]; exact add_comm _ _

end Cert.Proof.MM

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel as it is run, on words: the run is stated over any float values, and the two programs have one text. -/
theorem frame_kernel : Cert.quiescent_Kernel := fun m ρ _ =>
  (θ_run Cert.KernelIdeal.defs _ _).mono (fun _ h => ⟨fun c => ⟨(h.1 c).1, (h.1 c).2.1⟩, h.2⟩) (MM.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (MM.run_main (F := Ideal) m ρ)

/-- The reference's machine has no semaphore. -/
theorem no_cell (g : GSem Cert.ReferenceIdeal.nD Cert.ReferenceIdeal.τ Cert.ReferenceIdeal.sig) : False := by
  rcases g with ⟨_, s | s⟩
  · exact Fin.elim0 s
  · exact Fin.elim0 s

theorem frame_reference : Cert.quiescent_ReferenceIdeal := fun m ρ _ =>
  (θ_run Cert.ReferenceIdeal.defs _ _).mono (fun _ h => ⟨fun c => (h c).2, funext fun g => (no_cell g).elim⟩)
    (Cert.ReferenceIdeal.Value.run (F := Ideal) m ρ)

theorem preserves : Cert.preserves_Kernel_KernelIdeal := trivial

/-- Over the reals every device ends with its block of the reference's product. -/
theorem algebraic : Cert.algebraic_KernelIdeal_ReferenceIdeal := fun m ρ m' ρ' _ hin =>
  ⟨_, (θ_run Cert.KernelIdeal.defs _ _).mono
      (fun _ h c => ⟨(h.1 c).2.2.trans (MM.out_eq m c _ _ (fun c => (hin c).1) (fun c => (hin c).2)), (h.1 c).1, (h.1 c).2.1⟩)
      (MM.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
